-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_fits_KernelIdeal [hPre_routing_fits_KernelIdeal : Cert.Pre_routing_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routing_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routing_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routing_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_routing_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_fits_ReferenceIdeal [hPre_routing_fits_ReferenceIdeal : Cert.Pre_routing_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routing_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routing_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_routing_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routing_fits_KernelIdeal [hKernelIdeal : Cert.KernelIdeal.Facts] [hPre_routing_fits_KernelIdeal : Cert.Pre_routing_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routing_fits_ReferenceIdeal [hReferenceIdeal : Cert.ReferenceIdeal.Facts] [hPre_routing_fits_ReferenceIdeal : Cert.Pre_routing_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routing_fits_KernelIdeal [hKernelIdeal : Cert.KernelIdeal.Facts] [hReferenceIdeal : Cert.ReferenceIdeal.Facts] [hPre_routing_fits_KernelIdeal : Cert.Pre_routing_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_fits_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![2048, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routing_fits_KernelIdeal : Cert.Pre_routing_fits_KernelIdeal.Facts) (hPre_routing_fits_ReferenceIdeal : Cert.Pre_routing_fits_ReferenceIdeal.Facts),
    quiescent_Kernel (hKernel := hKernel)
    ∧ quiescent_KernelIdeal (hKernelIdeal := hKernelIdeal)
    ∧ quiescent_KernelIdeal_pre_routing_fits_KernelIdeal (hKernelIdeal := hKernelIdeal) (hPre_routing_fits_KernelIdeal := hPre_routing_fits_KernelIdeal)
    ∧ quiescent_ReferenceIdeal (hReferenceIdeal := hReferenceIdeal)
    ∧ quiescent_ReferenceIdeal_pre_routing_fits_ReferenceIdeal (hReferenceIdeal := hReferenceIdeal) (hPre_routing_fits_ReferenceIdeal := hPre_routing_fits_ReferenceIdeal)
    ∧ preserves_Kernel_KernelIdeal
    ∧ algebraic_KernelIdeal_ReferenceIdeal_pre_routing_fits_KernelIdeal (hKernelIdeal := hKernelIdeal) (hReferenceIdeal := hReferenceIdeal) (hPre_routing_fits_KernelIdeal := hPre_routing_fits_KernelIdeal)
-- ==== Pre_routing_fits_KernelIdeal.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S4 : Shape := ⟨1, ![4]⟩
abbrev S1x4 : Shape := ⟨2, ![1, 4]⟩
abbrev S_ : Shape := ⟨0, ![]⟩
abbrev S512x1 : Shape := ⟨2, ![512, 1]⟩
abbrev S512x4 : Shape := ⟨2, ![512, 4]⟩

class Facts : Prop where
  bcast_S4_S1x4_1 : S4.BroadcastsInDim S1x4 (![1] : Fin 1 → Fin S1x4.rank)
  bcast_S_S1x4 : S_.BroadcastsInDim S1x4 (![] : Fin 0 → Fin S1x4.rank)
  slices_S512x2_S512x1_0_0 : S512x2.Slices ![0, 0] S512x1
  slices_S512x2_S512x1_0_1 : S512x2.Slices ![0, 1] S512x1
  bcast_S512x1_S512x4_0_1 : S512x1.BroadcastsInDim S512x4 (![0, 1] : Fin 2 → Fin S512x4.rank)
  bcast_S1x4_S512x4_0_1 : S1x4.BroadcastsInDim S512x4 (![0, 1] : Fin 2 → Fin S512x4.rank)
  bcast_S_S512x256 : S_.BroadcastsInDim S512x256 (![] : Fin 0 → Fin S512x256.rank)
  bcast_S_S256x16 : S_.BroadcastsInDim S256x16 (![] : Fin 0 → Fin S256x16.rank)
  bcast_S_S512x2 : S_.BroadcastsInDim S512x2 (![] : Fin 0 → Fin S512x2.rank)
  natLt_1_32 : 1 < 32
  reducesTo_S512x4_S4_d0 : S512x4.ReducesTo [0] S4
  h_S_ : 0 < S_.numel
  bcast_S_S4 : S_.BroadcastsInDim S4 (![] : Fin 0 → Fin S4.rank)

variable [Facts]

def fn_part2 {F : FTy → Type} [FloatOps F] (main_v27 : IVec S512x256 1) (main_v30 : IVec S256x16 1) (main_v35 : IVec S512x2 1) (main_v37 : IVec S4 32) (main_v38 : IVec S4 32) : IVec S512x256 1 × IVec S256x16 1 × IVec S512x2 1 × IVec S4 1 :=
  let main_v39 : IVec S4 1 := cmpi .sle main_v37 main_v38
  (main_v27, main_v30, main_v35, main_v39)

def fn_part1 {F : FTy → Type} [FloatOps F] (main_arg0 : FVec F S512x256 .f32) (main_arg1 : FVec F S256x16 .f32) (main_arg2 : IVec S512x2 32) (main_v14 : IVec S512x4 1) (main_v17 : IVec S512x4 1) (main_v19 : IVec S1x4 32) (main_v20 : IVec S512x4 32) : IVec S512x256 1 × IVec S256x16 1 × IVec S512x2 1 × IVec S4 1 :=
  let main_v21 : IVec S512x4 32 := broadcastInDim S512x4 ![0, 1] bcast_S1x4_S512x4_0_1 main_v19
  let main_v22 : IVec S512x4 1 := cmpi .slt main_v20 main_v21
  let main_v23 : IVec S512x4 1 := andi main_v17 main_v22
  let main_v24 : IVec S512x4 1 := ori main_v14 main_v23
  let main_v25 : FVec F S512x256 .f32 := Host.absf main_arg0
  let main_cst : FVec F S_ .f32 := constant S_ .f32 0x7F800000#32
  let main_v26 : FVec F S512x256 .f32 := broadcastInDim S512x256 ![] bcast_S_S512x256 main_cst
  let main_v27 : IVec S512x256 1 := cmpf .olt main_v25 main_v26
  let main_v28 : FVec F S256x16 .f32 := Host.absf main_arg1
  let main_cst_2 : FVec F S_ .f32 := constant S_ .f32 0x7F800000#32
  let main_v29 : FVec F S256x16 .f32 := broadcastInDim S256x16 ![] bcast_S_S256x16 main_cst_2
  let main_v30 : IVec S256x16 1 := cmpf .olt main_v28 main_v29
  let main_c_3 : IVec S_ 32 := constantI S_ 32 0#32
  let main_v31 : IVec S512x2 32 := broadcastInDim S512x2 ![] bcast_S_S512x2 main_c_3
  let main_v32 : IVec S512x2 1 := cmpi .sge main_arg2 main_v31
  let main_c_4 : IVec S_ 32 := constantI S_ 32 16#32
  let main_v33 : IVec S512x2 32 := broadcastInDim S512x2 ![] bcast_S_S512x2 main_c_4
  let main_v34 : IVec S512x2 1 := cmpi .slt main_arg2 main_v33
  let main_v35 : IVec S512x2 1 := andi main_v32 main_v34
  let main_v36 : IVec S512x4 32 := (extui 32 · natLt_1_32) main_v24
  let main_c_5 : IVec S_ 32 := constantI S_ 32 0#32
  let main_v37 : IVec S4 32 := (fun x v => Host.reduce IntOp.addi x v reducesTo_S512x4_S4_d0 h_S_) main_v36 main_c_5
  let main_c_6 : IVec S_ 32 := constantI S_ 32 320#32
  let main_v38 : IVec S4 32 := broadcastInDim S4 ![] bcast_S_S4 main_c_6
  fn_part2 (F := F) main_v27 main_v30 main_v35 main_v37 main_v38

def fn {F : FTy → Type} [FloatOps F] (main_arg0 : FVec F S512x256 .f32) (main_arg1 : FVec F S256x16 .f32) (main_arg2 : IVec S512x2 32) (main_arg3 : FVec F S4x256x512 .f32) : IVec S512x256 1 × IVec S256x16 1 × IVec S512x2 1 × IVec S4 1 :=
  let main_v0 : IVec S4 32 := iotaInDim S4 32 0
  let main_v1 : IVec S1x4 32 := broadcastInDim S1x4 ![1] bcast_S4_S1x4_1 main_v0
  let main_c : IVec S_ 32 := constantI S_ 32 4#32
  let main_v2 : IVec S1x4 32 := broadcastInDim S1x4 ![] bcast_S_S1x4 main_c
  let main_v3 : IVec S1x4 32 := muli main_v2 main_v1
  let main_v4 : IVec S512x1 32 := (extractStridedSlice S512x1 ![0, 0] · slices_S512x2_S512x1_0_0) main_arg2
  let main_v5 : IVec S512x1 32 := (extractStridedSlice S512x1 ![0, 1] · slices_S512x2_S512x1_0_1) main_arg2
  let main_v6 : IVec S512x4 32 := broadcastInDim S512x4 ![0, 1] bcast_S512x1_S512x4_0_1 main_v4
  let main_v7 : IVec S512x4 32 := broadcastInDim S512x4 ![0, 1] bcast_S1x4_S512x4_0_1 main_v3
  let main_v8 : IVec S512x4 1 := cmpi .sge main_v6 main_v7
  let main_c_0 : IVec S_ 32 := constantI S_ 32 4#32
  let main_v9 : IVec S1x4 32 := broadcastInDim S1x4 ![] bcast_S_S1x4 main_c_0
  let main_v10 : IVec S1x4 32 := addi main_v3 main_v9
  let main_v11 : IVec S512x4 32 := broadcastInDim S512x4 ![0, 1] bcast_S512x1_S512x4_0_1 main_v4
  let main_v12 : IVec S512x4 32 := broadcastInDim S512x4 ![0, 1] bcast_S1x4_S512x4_0_1 main_v10
  let main_v13 : IVec S512x4 1 := cmpi .slt main_v11 main_v12
  let main_v14 : IVec S512x4 1 := andi main_v8 main_v13
  let main_v15 : IVec S512x4 32 := broadcastInDim S512x4 ![0, 1] bcast_S512x1_S512x4_0_1 main_v5
  let main_v16 : IVec S512x4 32 := broadcastInDim S512x4 ![0, 1] bcast_S1x4_S512x4_0_1 main_v3
  let main_v17 : IVec S512x4 1 := cmpi .sge main_v15 main_v16
  let main_c_1 : IVec S_ 32 := constantI S_ 32 4#32
  let main_v18 : IVec S1x4 32 := broadcastInDim S1x4 ![] bcast_S_S1x4 main_c_1
  let main_v19 : IVec S1x4 32 := addi main_v3 main_v18
  let main_v20 : IVec S512x4 32 := broadcastInDim S512x4 ![0, 1] bcast_S512x1_S512x4_0_1 main_v5
  fn_part1 (F := F) main_arg0 main_arg1 main_arg2 main_v14 main_v17 main_v19 main_v20
-- ==== Pre_routing_fits_ReferenceIdeal.lean ====
abbrev S2048x256 : Shape := ⟨2, ![2048, 256]⟩
abbrev S256x16 : Shape := ⟨2, ![256, 16]⟩
abbrev S2048x2 : Shape := ⟨2, ![2048, 2]⟩
abbrev S16x256x512 : Shape := ⟨3, ![16, 256, 512]⟩
abbrev S4 : Shape := ⟨1, ![4]⟩
abbrev S1x4 : Shape := ⟨2, ![1, 4]⟩
abbrev S_ : Shape := ⟨0, ![]⟩
abbrev S2048x1 : Shape := ⟨2, ![2048, 1]⟩
abbrev S2048x4 : Shape := ⟨2, ![2048, 4]⟩

class Facts : Prop where
  bcast_S4_S1x4_1 : S4.BroadcastsInDim S1x4 (![1] : Fin 1 → Fin S1x4.rank)
  bcast_S_S1x4 : S_.BroadcastsInDim S1x4 (![] : Fin 0 → Fin S1x4.rank)
  slices_S2048x2_S2048x1_0_0 : S2048x2.Slices ![0, 0] S2048x1
  slices_S2048x2_S2048x1_0_1 : S2048x2.Slices ![0, 1] S2048x1
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  bcast_S_S2048x256 : S_.BroadcastsInDim S2048x256 (![] : Fin 0 → Fin S2048x256.rank)
  bcast_S_S256x16 : S_.BroadcastsInDim S256x16 (![] : Fin 0 → Fin S256x16.rank)
  bcast_S_S2048x2 : S_.BroadcastsInDim S2048x2 (![] : Fin 0 → Fin S2048x2.rank)
  natLt_1_32 : 1 < 32
  reducesTo_S2048x4_S4_d0 : S2048x4.ReducesTo [0] S4
  h_S_ : 0 < S_.numel
  bcast_S_S4 : S_.BroadcastsInDim S4 (![] : Fin 0 → Fin S4.rank)

variable [Facts]

def fn_part2 {F : FTy → Type} [FloatOps F] (main_v27 : IVec S2048x256 1) (main_v30 : IVec S256x16 1) (main_v35 : IVec S2048x2 1) (main_v37 : IVec S4 32) (main_v38 : IVec S4 32) : IVec S2048x256 1 × IVec S256x16 1 × IVec S2048x2 1 × IVec S4 1 :=
  let main_v39 : IVec S4 1 := cmpi .sle main_v37 main_v38
  (main_v27, main_v30, main_v35, main_v39)

def fn_part1 {F : FTy → Type} [FloatOps F] (main_arg0 : FVec F S2048x256 .f32) (main_arg1 : FVec F S256x16 .f32) (main_arg2 : IVec S2048x2 32) (main_v14 : IVec S2048x4 1) (main_v17 : IVec S2048x4 1) (main_v19 : IVec S1x4 32) (main_v20 : IVec S2048x4 32) : IVec S2048x256 1 × IVec S256x16 1 × IVec S2048x2 1 × IVec S4 1 :=
  let main_v21 : IVec S2048x4 32 := broadcastInDim S2048x4 ![0, 1] bcast_S1x4_S2048x4_0_1 main_v19
  let main_v22 : IVec S2048x4 1 := cmpi .slt main_v20 main_v21
  let main_v23 : IVec S2048x4 1 := andi main_v17 main_v22
  let main_v24 : IVec S2048x4 1 := ori main_v14 main_v23
  let main_v25 : FVec F S2048x256 .f32 := Host.absf main_arg0
  let main_cst : FVec F S_ .f32 := constant S_ .f32 0x7F800000#32
  let main_v26 : FVec F S2048x256 .f32 := broadcastInDim S2048x256 ![] bcast_S_S2048x256 main_cst
  let main_v27 : IVec S2048x256 1 := cmpf .olt main_v25 main_v26
  let main_v28 : FVec F S256x16 .f32 := Host.absf main_arg1
  let main_cst_2 : FVec F S_ .f32 := constant S_ .f32 0x7F800000#32
  let main_v29 : FVec F S256x16 .f32 := broadcastInDim S256x16 ![] bcast_S_S256x16 main_cst_2
  let main_v30 : IVec S256x16 1 := cmpf .olt main_v28 main_v29
  let main_c_3 : IVec S_ 32 := constantI S_ 32 0#32
  let main_v31 : IVec S2048x2 32 := broadcastInDim S2048x2 ![] bcast_S_S2048x2 main_c_3
  let main_v32 : IVec S2048x2 1 := cmpi .sge main_arg2 main_v31
  let main_c_4 : IVec S_ 32 := constantI S_ 32 16#32
  let main_v33 : IVec S2048x2 32 := broadcastInDim S2048x2 ![] bcast_S_S2048x2 main_c_4
  let main_v34 : IVec S2048x2 1 := cmpi .slt main_arg2 main_v33
  let main_v35 : IVec S2048x2 1 := andi main_v32 main_v34
  let main_v36 : IVec S2048x4 32 := (extui 32 · natLt_1_32) main_v24
  let main_c_5 : IVec S_ 32 := constantI S_ 32 0#32
  let main_v37 : IVec S4 32 := (fun x v => Host.reduce IntOp.addi x v reducesTo_S2048x4_S4_d0 h_S_) main_v36 main_c_5
  let main_c_6 : IVec S_ 32 := constantI S_ 32 320#32
  let main_v38 : IVec S4 32 := broadcastInDim S4 ![] bcast_S_S4 main_c_6
  fn_part2 (F := F) main_v27 main_v30 main_v35 main_v37 main_v38

def fn {F : FTy → Type} [FloatOps F] (main_arg0 : FVec F S2048x256 .f32) (main_arg1 : FVec F S256x16 .f32) (main_arg2 : IVec S2048x2 32) (main_arg3 : FVec F S16x256x512 .f32) : IVec S2048x256 1 × IVec S256x16 1 × IVec S2048x2 1 × IVec S4 1 :=
  let main_v0 : IVec S4 32 := iotaInDim S4 32 0
  let main_v1 : IVec S1x4 32 := broadcastInDim S1x4 ![1] bcast_S4_S1x4_1 main_v0
  let main_c : IVec S_ 32 := constantI S_ 32 4#32
  let main_v2 : IVec S1x4 32 := broadcastInDim S1x4 ![] bcast_S_S1x4 main_c
  let main_v3 : IVec S1x4 32 := muli main_v2 main_v1
  let main_v4 : IVec S2048x1 32 := (extractStridedSlice S2048x1 ![0, 0] · slices_S2048x2_S2048x1_0_0) main_arg2
  let main_v5 : IVec S2048x1 32 := (extractStridedSlice S2048x1 ![0, 1] · slices_S2048x2_S2048x1_0_1) main_arg2
  let main_v6 : IVec S2048x4 32 := broadcastInDim S2048x4 ![0, 1] bcast_S2048x1_S2048x4_0_1 main_v4
  let main_v7 : IVec S2048x4 32 := broadcastInDim S2048x4 ![0, 1] bcast_S1x4_S2048x4_0_1 main_v3
  let main_v8 : IVec S2048x4 1 := cmpi .sge main_v6 main_v7
  let main_c_0 : IVec S_ 32 := constantI S_ 32 4#32
  let main_v9 : IVec S1x4 32 := broadcastInDim S1x4 ![] bcast_S_S1x4 main_c_0
  let main_v10 : IVec S1x4 32 := addi main_v3 main_v9
  let main_v11 : IVec S2048x4 32 := broadcastInDim S2048x4 ![0, 1] bcast_S2048x1_S2048x4_0_1 main_v4
  let main_v12 : IVec S2048x4 32 := broadcastInDim S2048x4 ![0, 1] bcast_S1x4_S2048x4_0_1 main_v10
  let main_v13 : IVec S2048x4 1 := cmpi .slt main_v11 main_v12
  let main_v14 : IVec S2048x4 1 := andi main_v8 main_v13
  let main_v15 : IVec S2048x4 32 := broadcastInDim S2048x4 ![0, 1] bcast_S2048x1_S2048x4_0_1 main_v5
  let main_v16 : IVec S2048x4 32 := broadcastInDim S2048x4 ![0, 1] bcast_S1x4_S2048x4_0_1 main_v3
  let main_v17 : IVec S2048x4 1 := cmpi .sge main_v15 main_v16
  let main_c_1 : IVec S_ 32 := constantI S_ 32 4#32
  let main_v18 : IVec S1x4 32 := broadcastInDim S1x4 ![] bcast_S_S1x4 main_c_1
  let main_v19 : IVec S1x4 32 := addi main_v3 main_v18
  let main_v20 : IVec S2048x4 32 := broadcastInDim S2048x4 ![0, 1] bcast_S2048x1_S2048x4_0_1 main_v5
  fn_part1 (F := F) main_arg0 main_arg1 main_arg2 main_v14 main_v17 main_v19 main_v20
-- ==== Kernel.lean ====
abbrev S512x256 : Shape := ⟨2, ![512, 256]⟩
abbrev S256x16 : Shape := ⟨2, ![256, 16]⟩
abbrev S512x2 : Shape := ⟨2, ![512, 2]⟩
abbrev S4x256x512 : Shape := ⟨3, ![4, 256, 512]⟩
abbrev S512x512 : Shape := ⟨2, ![512, 512]⟩
abbrev S256x2048 : Shape := ⟨2, ![256, 2048]⟩
abbrev S3x4x320 : Shape := ⟨3, ![3, 4, 320]⟩
abbrev S3x320x256 : Shape := ⟨3, ![3, 320, 256]⟩
abbrev S3x512x320 : Shape := ⟨3, ![3, 512, 320]⟩
abbrev S3x320x512 : Shape := ⟨3, ![3, 320, 512]⟩
abbrev S3 : Shape := ⟨1, ![3]⟩
abbrev S_ : Shape := ⟨0, ![]⟩
abbrev S512x1 : Shape := ⟨2, ![512, 1]⟩
abbrev S512x3 : Shape := ⟨2, ![512, 3]⟩
abbrev S1x512 : Shape := ⟨2, ![1, 512]⟩
abbrev S320x1 : Shape := ⟨2, ![320, 1]⟩
abbrev S320x512 : Shape := ⟨2, ![320, 512]⟩
abbrev S512x320 : Shape := ⟨2, ![512, 320]⟩
abbrev S1x512x320 : Shape := ⟨3, ![1, 512, 320]⟩
abbrev S320x256 : Shape := ⟨2, ![320, 256]⟩
abbrev S1x320x256 : Shape := ⟨3, ![1, 320, 256]⟩
abbrev S1 : Shape := ⟨1, ![1]⟩
abbrev S512x16 : Shape := ⟨2, ![512, 16]⟩
abbrev S512 : Shape := ⟨1, ![512]⟩
abbrev S512x4 : Shape := ⟨2, ![512, 4]⟩
abbrev S320x4 : Shape := ⟨2, ![320, 4]⟩
abbrev S4x320 : Shape := ⟨2, ![4, 320]⟩
abbrev S1x4x320 : Shape := ⟨3, ![1, 4, 320]⟩
abbrev S1x256x512 : Shape := ⟨3, ![1, 256, 512]⟩
abbrev S256x512 : Shape := ⟨2, ![256, 512]⟩
abbrev S320x2048 : Shape := ⟨2, ![320, 2048]⟩
abbrev S1x320x512 : Shape := ⟨3, ![1, 320, 512]⟩
abbrev S512x2048 : Shape := ⟨2, ![512, 2048]⟩

abbrev nBuf : Space → Nat
  | .hbm => 5
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S256x16, .f32⟩
  | .local _ .vmem, ⟨2, _⟩ => ⟨S512x2, .i32⟩
  | .local _ .vmem, ⟨3, _⟩ => ⟨S4x256x512, .f32⟩
  | .local _ .vmem, ⟨4, _⟩ => ⟨S512x512, .f32⟩
  | .local _ .vmem, ⟨5, _⟩ => ⟨S512x256, .bf16⟩
  | .local _ .vmem, ⟨6, _⟩ => ⟨S256x2048, .bf16⟩
  | .local _ .vmem, ⟨7, _⟩ => ⟨S3x4x320, .bf16⟩
  | .local _ .vmem, ⟨8, _⟩ => ⟨S3x4x320, .bf16⟩
  | .local _ .vmem, ⟨9, _⟩ => ⟨S3x320x256, .bf16⟩
  | .local _ .vmem, ⟨10, _⟩ => ⟨S3x320x256, .bf16⟩
  | .local _ .vmem, ⟨11, _⟩ => ⟨S3x512x320, .bf16⟩
  | .local _ .vmem, ⟨12, _⟩ => ⟨S3x320x512, .bf16⟩
  | .local _ .vmem, ⟨13, _⟩ => ⟨S3x320x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.addi v2 c2_i32
  let c4_i32_0 : BitVec 32 := 4#32
  let c0_i32 : BitVec 32 := 0#32
  let v5 : BitVec 1 := Scalar.cmpi .eq c4_i32_0 c0_i32
  let c1_i32_1 : BitVec 32 := 1#32
  let v6 : BitVec 32 := Scalar.select v5 c1_i32_1 c4_i32_0
  let v7 : BitVec 32 := Scalar.remsi v4 v6
  let c0_i32_3 : BitVec 32 := 0#32
  let v9 : BitVec 1 := Scalar.cmpi .slt v7 c0_i32_3
  let c0_i32_4 : BitVec 32 := 0#32
  let v10 : BitVec 1 := Scalar.cmpi .slt v6 c0_i32_4
  let v11 : BitVec 1 := Scalar.xori v9 v10
  let c0_i32_2 : BitVec 32 := 0#32
  let v8 : BitVec 1 := Scalar.cmpi .ne v7 c0_i32_2
  let v12 : BitVec 1 := Scalar.andi v11 v8
  let v13 : BitVec 32 := Scalar.addi v7 v6
  let v14 : BitVec 32 := Scalar.select v12 v13 v7
  let c1_i32_6 : BitVec 32 := 1#32
  let v15 : BitVec 32 := Scalar.muli v14 c1_i32_6
  let v16 : BitVec 32 := Scalar.addi c0_i32_7 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v17 : BitVec 32 := Scalar.addi v2 c1_i32_8
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v167 : BitVec 32 := Scalar.addi v2 c2_i32_76
  let c4_i32_77 : BitVec 32 := 4#32
  let c0_i32_78 : BitVec 32 := 0#32
  let v168 : BitVec 1 := Scalar.cmpi .eq c4_i32_77 c0_i32_78
  let c1_i32_79 : BitVec 32 := 1#32
  let v169 : BitVec 32 := Scalar.select v168 c1_i32_79 c4_i32_77
  let v170 : BitVec 32 := Scalar.remsi v167 v169
  let c0_i32_81 : BitVec 32 := 0#32
  let v172 : BitVec 1 := Scalar.cmpi .slt v170 c0_i32_81
  let c0_i32_82 : BitVec 32 := 0#32
  let v173 : BitVec 1 := Scalar.cmpi .slt v169 c0_i32_82
  let v174 : BitVec 1 := Scalar.xori v172 v173
  let c0_i32_80 : BitVec 32 := 0#32
  let v171 : BitVec 1 := Scalar.cmpi .ne v170 c0_i32_80
  let v175 : BitVec 1 := Scalar.andi v174 v171
  let v176 : BitVec 32 := Scalar.addi v170 v169
  let v177 : BitVec 32 := Scalar.select v175 v176 v170
  let c1_i32_87 : BitVec 32 := 1#32
  let v178 : BitVec 32 := Scalar.muli v177 c1_i32_87
  let v179 : BitVec 32 := Scalar.addi c0_i32_88 v178
  v179.toNat
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_105 : BitVec 32 := 1#32
  let v214 : BitVec 32 := Scalar.addi v2 c1_i32_105
  let c4_i32_106 : BitVec 32 := 4#32
  let c0_i32_107 : BitVec 32 := 0#32
  let v215 : BitVec 1 := Scalar.cmpi .eq c4_i32_106 c0_i32_107
  let c1_i32_108 : BitVec 32 := 1#32
  let v216 : BitVec 32 := Scalar.select v215 c1_i32_108 c4_i32_106
  let v217 : BitVec 32 := Scalar.remsi v214 v216
  let c0_i32_110 : BitVec 32 := 0#32
  let v219 : BitVec 1 := Scalar.cmpi .slt v217 c0_i32_110
  let c0_i32_111 : BitVec 32 := 0#32
  let v220 : BitVec 1 := Scalar.cmpi .slt v216 c0_i32_111
  let v221 : BitVec 1 := Scalar.xori v219 v220
  let c0_i32_109 : BitVec 32 := 0#32
  let v218 : BitVec 1 := Scalar.cmpi .ne v217 c0_i32_109
  let v222 : BitVec 1 := Scalar.andi v221 v218
  let v223 : BitVec 32 := Scalar.addi v217 v216
  let v224 : BitVec 32 := Scalar.select v222 v223 v217
  let c1_i32_116 : BitVec 32 := 1#32
  let v225 : BitVec 32 := Scalar.muli v224 c1_i32_116
  let v226 : BitVec 32 := Scalar.addi c0_i32_117 v225
  v226.toNat
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_133 : BitVec 32 := 3#32
  let v261 : BitVec 32 := Scalar.addi v2 c3_i32_133
  let c4_i32_134 : BitVec 32 := 4#32
  let c0_i32_135 : BitVec 32 := 0#32
  let v262 : BitVec 1 := Scalar.cmpi .eq c4_i32_134 c0_i32_135
  let c1_i32_136 : BitVec 32 := 1#32
  let v263 : BitVec 32 := Scalar.select v262 c1_i32_136 c4_i32_134
  let v264 : BitVec 32 := Scalar.remsi v261 v263
  let c0_i32_138 : BitVec 32 := 0#32
  let v266 : BitVec 1 := Scalar.cmpi .slt v264 c0_i32_138
  let c0_i32_139 : BitVec 32 := 0#32
  let v267 : BitVec 1 := Scalar.cmpi .slt v263 c0_i32_139
  let v268 : BitVec 1 := Scalar.xori v266 v267
  let c0_i32_137 : BitVec 32 := 0#32
  let v265 : BitVec 1 := Scalar.cmpi .ne v264 c0_i32_137
  let v269 : BitVec 1 := Scalar.andi v268 v265
  let v270 : BitVec 32 := Scalar.addi v264 v263
  let v271 : BitVec 32 := Scalar.select v269 v270 v264
  let c1_i32_144 : BitVec 32 := 1#32
  let v272 : BitVec 32 := Scalar.muli v271 c1_i32_144
  let v273 : BitVec 32 := Scalar.addi c0_i32_145 v272
  v273.toNat
def k0_dev7 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_183 : BitVec 32 := 2#32
  let v356 : BitVec 32 := Scalar.addi v2 c2_i32_183
  let c4_i32_184 : BitVec 32 := 4#32
  let c0_i32_185 : BitVec 32 := 0#32
  let v357 : BitVec 1 := Scalar.cmpi .eq c4_i32_184 c0_i32_185
  let c1_i32_186 : BitVec 32 := 1#32
  let v358 : BitVec 32 := Scalar.select v357 c1_i32_186 c4_i32_184
  let v359 : BitVec 32 := Scalar.remsi v356 v358
  let c0_i32_188 : BitVec 32 := 0#32
  let v361 : BitVec 1 := Scalar.cmpi .slt v359 c0_i32_188
  let c0_i32_189 : BitVec 32 := 0#32
  let v362 : BitVec 1 := Scalar.cmpi .slt v358 c0_i32_189
  let v363 : BitVec 1 := Scalar.xori v361 v362
  let c0_i32_187 : BitVec 32 := 0#32
  let v360 : BitVec 1 := Scalar.cmpi .ne v359 c0_i32_187
  let v364 : BitVec 1 := Scalar.andi v363 v360
  let v365 : BitVec 32 := Scalar.addi v359 v358
  let v366 : BitVec 32 := Scalar.select v364 v365 v359
  let c1_i32_194 : BitVec 32 := 1#32
  let v367 : BitVec 32 := Scalar.muli v366 c1_i32_194
  let v368 : BitVec 32 := Scalar.addi c0_i32_195 v367
  v368.toNat
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_224 : BitVec 32 := 1#32
  let v425 : BitVec 32 := Scalar.addi v2 c1_i32_224
  let c4_i32_225 : BitVec 32 := 4#32
  let c0_i32_226 : BitVec 32 := 0#32
  let v426 : BitVec 1 := Scalar.cmpi .eq c4_i32_225 c0_i32_226
  let c1_i32_227 : BitVec 32 := 1#32
  let v427 : BitVec 32 := Scalar.select v426 c1_i32_227 c4_i32_225
  let v428 : BitVec 32 := Scalar.remsi v425 v427
  let c0_i32_229 : BitVec 32 := 0#32
  let v430 : BitVec 1 := Scalar.cmpi .slt v428 c0_i32_229
  let c0_i32_230 : BitVec 32 := 0#32
  let v431 : BitVec 1 := Scalar.cmpi .slt v427 c0_i32_230
  let v432 : BitVec 1 := Scalar.xori v430 v431
  let c0_i32_228 : BitVec 32 := 0#32
  let v429 : BitVec 1 := Scalar.cmpi .ne v428 c0_i32_228
  let v433 : BitVec 1 := Scalar.andi v432 v429
  let v434 : BitVec 32 := Scalar.addi v428 v427
  let v435 : BitVec 32 := Scalar.select v433 v434 v428
  let c1_i32_235 : BitVec 32 := 1#32
  let v436 : BitVec 32 := Scalar.muli v435 c1_i32_235
  let v437 : BitVec 32 := Scalar.addi c0_i32_236 v436
  v437.toNat
def k0_dev9 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_265 : BitVec 32 := 3#32
  let v494 : BitVec 32 := Scalar.addi v2 c3_i32_265
  let c4_i32_266 : BitVec 32 := 4#32
  let c0_i32_267 : BitVec 32 := 0#32
  let v495 : BitVec 1 := Scalar.cmpi .eq c4_i32_266 c0_i32_267
  let c1_i32_268 : BitVec 32 := 1#32
  let v496 : BitVec 32 := Scalar.select v495 c1_i32_268 c4_i32_266
  let v497 : BitVec 32 := Scalar.remsi v494 v496
  let c0_i32_270 : BitVec 32 := 0#32
  let v499 : BitVec 1 := Scalar.cmpi .slt v497 c0_i32_270
  let c0_i32_271 : BitVec 32 := 0#32
  let v500 : BitVec 1 := Scalar.cmpi .slt v496 c0_i32_271
  let v501 : BitVec 1 := Scalar.xori v499 v500
  let c0_i32_269 : BitVec 32 := 0#32
  let v498 : BitVec 1 := Scalar.cmpi .ne v497 c0_i32_269
  let v502 : BitVec 1 := Scalar.andi v501 v498
  let v503 : BitVec 32 := Scalar.addi v497 v496
  let v504 : BitVec 32 := Scalar.select v502 v503 v497
  let c1_i32_276 : BitVec 32 := 1#32
  let v505 : BitVec 32 := Scalar.muli v504 c1_i32_276
  let v506 : BitVec 32 := Scalar.addi c0_i32_277 v505
  v506.toNat
def k0_dev10 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_345 : BitVec 32 := 1#32
  let v610 : BitVec 32 := Scalar.addi v2 c1_i32_345
  let c4_i32_346 : BitVec 32 := 4#32
  let c0_i32_347 : BitVec 32 := 0#32
  let v611 : BitVec 1 := Scalar.cmpi .eq c4_i32_346 c0_i32_347
  let c1_i32_348 : BitVec 32 := 1#32
  let v612 : BitVec 32 := Scalar.select v611 c1_i32_348 c4_i32_346
  let v613 : BitVec 32 := Scalar.remsi v610 v612
  let c0_i32_350 : BitVec 32 := 0#32
  let v615 : BitVec 1 := Scalar.cmpi .slt v613 c0_i32_350
  let c0_i32_351 : BitVec 32 := 0#32
  let v616 : BitVec 1 := Scalar.cmpi .slt v612 c0_i32_351
  let v617 : BitVec 1 := Scalar.xori v615 v616
  let c0_i32_349 : BitVec 32 := 0#32
  let v614 : BitVec 1 := Scalar.cmpi .ne v613 c0_i32_349
  let v618 : BitVec 1 := Scalar.andi v617 v614
  let v619 : BitVec 32 := Scalar.addi v613 v612
  let v620 : BitVec 32 := Scalar.select v618 v619 v613
  let c1_i32_356 : BitVec 32 := 1#32
  let v621 : BitVec 32 := Scalar.muli v620 c1_i32_356
  let v622 : BitVec 32 := Scalar.addi c0_i32_357 v621
  v622.toNat
def k0_dev11 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_409 : BitVec 32 := 2#32
  let v702 : BitVec 32 := Scalar.addi v2 c2_i32_409
  let c4_i32_410 : BitVec 32 := 4#32
  let c0_i32_411 : BitVec 32 := 0#32
  let v703 : BitVec 1 := Scalar.cmpi .eq c4_i32_410 c0_i32_411
  let c1_i32_412 : BitVec 32 := 1#32
  let v704 : BitVec 32 := Scalar.select v703 c1_i32_412 c4_i32_410
  let v705 : BitVec 32 := Scalar.remsi v702 v704
  let c0_i32_414 : BitVec 32 := 0#32
  let v707 : BitVec 1 := Scalar.cmpi .slt v705 c0_i32_414
  let c0_i32_415 : BitVec 32 := 0#32
  let v708 : BitVec 1 := Scalar.cmpi .slt v704 c0_i32_415
  let v709 : BitVec 1 := Scalar.xori v707 v708
  let c0_i32_413 : BitVec 32 := 0#32
  let v706 : BitVec 1 := Scalar.cmpi .ne v705 c0_i32_413
  let v710 : BitVec 1 := Scalar.andi v709 v706
  let v711 : BitVec 32 := Scalar.addi v705 v704
  let v712 : BitVec 32 := Scalar.select v710 v711 v705
  let c1_i32_420 : BitVec 32 := 1#32
  let v713 : BitVec 32 := Scalar.muli v712 c1_i32_420
  let v714 : BitVec 32 := Scalar.addi c0_i32_421 v713
  v714.toNat
def k0_dev12 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_473 : BitVec 32 := 3#32
  let v794 : BitVec 32 := Scalar.addi v2 c3_i32_473
  let c4_i32_474 : BitVec 32 := 4#32
  let c0_i32_475 : BitVec 32 := 0#32
  let v795 : BitVec 1 := Scalar.cmpi .eq c4_i32_474 c0_i32_475
  let c1_i32_476 : BitVec 32 := 1#32
  let v796 : BitVec 32 := Scalar.select v795 c1_i32_476 c4_i32_474
  let v797 : BitVec 32 := Scalar.remsi v794 v796
  let c0_i32_478 : BitVec 32 := 0#32
  let v799 : BitVec 1 := Scalar.cmpi .slt v797 c0_i32_478
  let c0_i32_479 : BitVec 32 := 0#32
  let v800 : BitVec 1 := Scalar.cmpi .slt v796 c0_i32_479
  let v801 : BitVec 1 := Scalar.xori v799 v800
  let c0_i32_477 : BitVec 32 := 0#32
  let v798 : BitVec 1 := Scalar.cmpi .ne v797 c0_i32_477
  let v802 : BitVec 1 := Scalar.andi v801 v798
  let v803 : BitVec 32 := Scalar.addi v797 v796
  let v804 : BitVec 32 := Scalar.select v802 v803 v797
  let c1_i32_484 : BitVec 32 := 1#32
  let v805 : BitVec 32 := Scalar.muli v804 c1_i32_484
  let v806 : BitVec 32 := Scalar.addi c0_i32_485 v805
  v806.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x256 : Shape := ⟨2, ![2048, 256]⟩
abbrev S256x16 : Shape := ⟨2, ![256, 16]⟩
abbrev S2048x2 : Shape := ⟨2, ![2048, 2]⟩
abbrev S16x256x512 : Shape := ⟨3, ![16, 256, 512]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S2048x256x512 : Shape := ⟨3, ![2048, 256, 512]⟩
abbrev S2048x512 : Shape := ⟨2, ![2048, 512]⟩

abbrev nBuf : Space → Nat
  | .hbm => 68
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x16, .f32⟩
  | .hbm, ⟨2, _⟩ => ⟨S2048x2, .i32⟩
  | .hbm, ⟨3, _⟩ => ⟨S16x256x512, .f32⟩
  | .hbm, ⟨4, _⟩ => ⟨S2048x16, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x16, .f32⟩
  | .hbm, ⟨15, _⟩ => ⟨S2048x16, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S2048x1, .f32⟩
  | .hbm, ⟨30, _⟩ => ⟨S2048x1, .i32⟩
  | .hbm, ⟨31, _⟩ => ⟨S_, .i32⟩
  | .hbm, ⟨32, _⟩ => ⟨S2048x1, .i32⟩
  | .hbm, ⟨33, _⟩ => ⟨S2048x1, .i1⟩
  | .hbm, ⟨34, _⟩ => ⟨S_, .i32⟩
  | .hbm, ⟨35, _⟩ => ⟨S2048x1, .i32⟩
  | .hbm, ⟨36, _⟩ => ⟨S2048x1, .i32⟩
  | .hbm, ⟨37, _⟩ => ⟨S2048x1, .i32⟩
  | .hbm, ⟨38, _⟩ => ⟨S2048x1x1, .i32⟩
  | .hbm, ⟨39, _⟩ => ⟨S2048x1, .f32⟩
  | .hbm, ⟨40, _⟩ => ⟨S2048x1, .f32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S2048x256x512, .f32⟩
  | .hbm, ⟨50, _⟩ => ⟨S2048x512, .f32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048x1, .i32⟩
  | .hbm, ⟨59, _⟩ => ⟨S2048x256x512, .f32⟩
  | .hbm, ⟨60, _⟩ => ⟨S2048x512, .f32⟩
  | .hbm, ⟨61, _⟩ => ⟨S2048x1, .f32⟩
  | .hbm, ⟨62, _⟩ => ⟨S2048x512, .f32⟩
  | .hbm, ⟨63, _⟩ => ⟨S2048x512, .f32⟩
  | .hbm, ⟨64, _⟩ => ⟨S2048x1, .f32⟩
  | .hbm, ⟨65, _⟩ => ⟨S2048x512, .f32⟩
  | .hbm, ⟨66, _⟩ => ⟨S2048x512, .f32⟩
  | .hbm, ⟨67, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_c_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== Proof.Slot.lean ====
/-
# Slots of a buffer

A slot is a unit-stride rectangle of a whole buffer held at the full share, together with what reads through it.
The loads, the stores and the transfers of the kernel all go through slots.
-/
module

public import Idealize.ShloMosaic.Lib.Pipeline.Launch
public import Idealize.ShloMosaic.Lib.Pipeline.Kit
public import Idealize.ShloMosaic.Lib.Writes
public import Idealize.ShloMosaic.Lib.Tactic

@[expose] public section

noncomputable section

namespace Cert.MoE

open Idealize.ShloMosaic
open Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type}
variable {U : Type} [URA U] {Λ : Labels}

local notation "𝕄" => MT nD τ sig Unit Val ℕ U ℕ

/-- The rectangle `off`, `size` of a memref, as a memref. -/
abbrev part {s : Shape} {e : EltTy} (M : Memref sig .tc .vmem s e) (off size : Fin s.rank → ℕ)
    (h : ∀ a, off a + size a ≤ s.size a) : Memref sig .tc .vmem (⟨s.rank, size⟩ : Shape) e :=
  M.slice (Rect.unit off size h) (fun _ => rfl)

/-- Device `c` holds the rectangle `off`, `size` of `M`, and it reads `X`. -/
abbrev slot (c : Dev nD) {s : Shape} {e : EltTy} (M : Memref sig .tc .vmem s e) (off size : Fin s.rank → ℕ)
    (h : ∀ a, off a + size a ≤ s.size a) (X : (⟨s.rank, size⟩ : Shape).Idx → Val e) : sProp 𝕄 :=
  owns (Ix := Unit) (Name := ℕ) (U := U) (Lvl := ℕ) (c : Thread nD τ) (part M off size h) fullShare X

section Steps

variable {defs : Defs nD τ sig Val Λ} (𝒱 : Variants) {α : Type} {Φ : α → sProp (MT nD τ sig Unit Val ℕ U ℕ)}
variable (c : Dev nD) {s : Shape} {e : EltTy} {M : Memref sig .tc .vmem s e} {off size : Fin s.rank → ℕ}
    {h : ∀ a, off a + size a ≤ s.size a} {X : (⟨s.rank, size⟩ : Shape).Idx → Val e}

/-- A load of the slot's rectangle reads what the slot holds. -/
theorem slot_load {hl : M.view.LoadsAt (Rect.unit off size h).toLoadRect}
    {k : ((Rect.unit off size h).toLoadRect.shape.Idx → Val e) → Prog (TpuEff nD τ sig Val Λ .tc) α} :
    slot (U := U) c M off size h X
      ⊢ iprop((slot c M off size h X -∗ wp frame (wpE defs 𝒱 (c : Thread nD τ) none) Set.univ (k X) Φ)
        -∗ wp frame (wpE defs 𝒱 (c : Thread nD τ) none) Set.univ (.op (.load M (Rect.unit off size h).toLoadRect hl) k) Φ) := by
  unfold slot owns
  iintro ⟨%f, %hf, Hf⟩ Hk
  iapply (wp_load_rect 𝒱 (c : Thread nD τ) none Set.univ (m := M) (r := Rect.unit off size h) (Finset.Subset.refl _)) $$ Hf
  iintro Hf
  have hf' : (M.access (Rect.unit off size h)).read Val f = X := hf
  rw [hf']
  iapply Hk
  iexists f
  isplitr; · ipureintro; exact hf
  iexact Hf

/-- A store to the slot's rectangle leaves the stored value in the slot. -/
theorem slot_store {w : (Rect.unit off size h).shape.Idx → Val e} {hx : (M.access (Rect.unit off size h)).Stores Finset.univ}
    {hm : (Finset.univ : Finset (Rect.unit off size h).shape.Idx) = Finset.univ ∨ ∀ a, (Rect.unit off size h).stride a = 1}
    {k : PUnit → Prog (TpuEff nD τ sig Val Λ .tc) α} :
    slot (U := U) c M off size h X
      ⊢ iprop((slot c M off size h w -∗ wp frame (wpE defs 𝒱 (c : Thread nD τ) none) Set.univ (k ⟨⟩) Φ)
        -∗ wp frame (wpE defs 𝒱 (c : Thread nD τ) none) Set.univ (.op (.store M (Rect.unit off size h) w Finset.univ hx hm) k) Φ) := by
  unfold slot owns
  iintro ⟨%f, %hf, Hf⟩ Hk
  iapply (wp_store 𝒱 (c : Thread nD τ) none Set.univ (m := M) (r := Rect.unit off size h) (Mk := Finset.univ)
    (S := (part M off size h).view.set) (by rw [View.setOn_univ])) $$ Hf
  iintro Hf
  iapply Hk
  iexists ((M.access (Rect.unit off size h)).write Val f w Finset.univ)
  isplitr; · ipureintro; exact View.read_write_univ _ _
  iexact Hf

/-- A load of any rectangle of a memref held at `Y` reads `Y` there. -/
theorem own_load {Y : s.Idx → Val e} {q : PosShare TreeShare} {r : Rect s} {hl : M.view.LoadsAt r.toLoadRect}
    {k : (r.toLoadRect.shape.Idx → Val e) → Prog (TpuEff nD τ sig Val Λ .tc) α} :
    owns (U := U) (Ix := Unit) (Name := ℕ) (Lvl := ℕ) (c : Thread nD τ) M q Y
      ⊢ iprop((owns (c : Thread nD τ) M q Y
            -∗ wp frame (wpE defs 𝒱 (c : Thread nD τ) none) Set.univ (k fun j => Y (r.emb j)) Φ)
        -∗ wp frame (wpE defs 𝒱 (c : Thread nD τ) none) Set.univ (.op (.load M r.toLoadRect hl) k) Φ) := by
  unfold owns
  iintro ⟨%f, %hf, Hf⟩ Hk
  iapply (wp_load_rect 𝒱 (c : Thread nD τ) none Set.univ (m := M) (r := r) (S := M.view.set) (View.set_slice_subset _ _)) $$ Hf
  iintro Hf
  have hf' : (M.access r).read Val f = fun j => Y (r.emb j) := by subst hf; rfl
  rw [hf']
  iapply Hk
  iexists f
  isplitr; · ipureintro; exact hf
  iexact Hf

/-- The rectangle that is a whole shape places every index at itself. -/
theorem emb_all {s : Shape} {off : Fin s.rank → ℕ} (h0 : off = fun _ => 0) (h : ∀ a, off a + s.size a ≤ s.size a)
    (j : s.Idx) : (Rect.unit off s.size h).emb j = j := by
  subst h0
  funext a
  apply Fin.ext
  show 0 + 1 * (j a : ℕ) = j a
  omega

/-- A load of the whole of a memref reads all it holds. -/
theorem own_load_all {Y : s.Idx → Val e} {q : PosShare TreeShare} {off : Fin s.rank → ℕ}
    {h : ∀ a, off a + s.size a ≤ s.size a} (h0 : off = fun _ => 0)
    {hl : M.view.LoadsAt (Rect.unit off s.size h).toLoadRect}
    {k : (s.Idx → Val e) → Prog (TpuEff nD τ sig Val Λ .tc) α} :
    owns (U := U) (Ix := Unit) (Name := ℕ) (Lvl := ℕ) (c : Thread nD τ) M q Y
      ⊢ iprop((owns (c : Thread nD τ) M q Y
            -∗ wp frame (wpE defs 𝒱 (c : Thread nD τ) none) Set.univ (k Y) Φ)
        -∗ wp frame (wpE defs 𝒱 (c : Thread nD τ) none) Set.univ
            (.op (.load M (Rect.unit off s.size h).toLoadRect hl) k) Φ) := by
  have := own_load (U := U) (defs := defs) 𝒱 (Φ := Φ) c (M := M) (Y := Y) (q := q) (r := Rect.unit off s.size h) (hl := hl) (k := k)
  have e : (fun j => Y ((Rect.unit off s.size h).emb j)) = Y := funext fun j => by rw [emb_all h0]
  rw [e] at this
  exact this

/-- A store to the whole of a memref leaves the stored value. -/
theorem own_store_all {Y : s.Idx → Val e} {off : Fin s.rank → ℕ}
    {h : ∀ a, off a + s.size a ≤ s.size a} (h0 : off = fun _ => 0)
    {w : s.Idx → Val e} {hx : (M.access (Rect.unit off s.size h)).Stores Finset.univ}
    {hm : (Finset.univ : Finset (Rect.unit off s.size h).shape.Idx) = Finset.univ ∨ ∀ a, (Rect.unit off s.size h).stride a = 1}
    {k : PUnit → Prog (TpuEff nD τ sig Val Λ .tc) α} :
    owns (U := U) (Ix := Unit) (Name := ℕ) (Lvl := ℕ) (c : Thread nD τ) M fullShare Y
      ⊢ iprop((owns (c : Thread nD τ) M fullShare w
            -∗ wp frame (wpE defs 𝒱 (c : Thread nD τ) none) Set.univ (k ⟨⟩) Φ)
        -∗ wp frame (wpE defs 𝒱 (c : Thread nD τ) none) Set.univ
            (.op (.store M (Rect.unit off s.size h) w Finset.univ hx hm) k) Φ) := by
  unfold owns
  iintro ⟨%f, %hf, Hf⟩ Hk
  iapply (wp_store 𝒱 (c : Thread nD τ) none Set.univ (m := M) (r := Rect.unit off s.size h) (Mk := Finset.univ)
    (S := M.view.set) (by rw [View.setOn_univ]; exact View.set_slice_subset _ _)) $$ Hf
  iintro Hf
  iapply Hk
  iexists ((M.access (Rect.unit off s.size h)).write Val f w Finset.univ)
  isplitr
  · ipureintro
    funext j
    have := congrFun (View.read_write_univ (v := M.access (Rect.unit off s.size h)) f w) j
    rw [← this]
    show M.view.read Val _ j = M.view.read Val _ ((Rect.unit off s.size h).emb j)
    rw [emb_all h0]
  iexact Hf

end Steps

section Send

variable {D : Type} [DecidableEq D]
variable {defs : Defs nD τ sig Val Λ} (𝒱 : Variants) {α : Type} {Φ : α → sProp (MT nD τ sig Unit Val ℕ U ℕ)}
variable (E : Emb (URounds (GSem nD τ sig) D) (MT nD τ sig Unit Val ℕ U ℕ)) (Rd : Rounds.Schedule (GSem nD τ sig) D (MT nD τ sig Unit Val ℕ U ℕ))

/-- A slot copied over another through squeezed views of both: the destination then reads what the source read. -/
theorem landed_read {s : Shape} {e : EltTy} {s' : Shape} (Ms Md : Memref sig .tc .vmem s e) {offs offd size : Fin s.rank → ℕ}
    {hs : ∀ a, offs a + size a ≤ s.size a} {hd : ∀ a, offd a + size a ≤ s.size a}
    (q q' : (⟨s.rank, size⟩ : Shape).Squeezes s') (fs : (part Ms offs size hs).view.ty.Contents Val)
    (fd : (part Md offd size hd).view.ty.Contents Val) :
    (part Md offd size hd).view.read Val
        (((part Md offd size hd).squeeze s' q').view.write Val fd (((part Ms offs size hs).squeeze s' q).view.read Val fs) Finset.univ)
      = (part Ms offs size hs).view.read Val fs := by
  have h1 := View.write_reshape_univ (part Md offd size hd).view (s' := s') q'.numel_eq fd
    (((part Ms offs size hs).squeeze s' q).view.read Val fs)
  refine (congrArg _ h1).trans ?_
  rw [View.read_write_univ]
  funext x
  exact congrArg ((part Ms offs size hs).view.read Val fs) (Equiv.apply_symm_apply _ x)

/-- A transfer of a slot of `c` into a slot of `n`: the two payloads are the source slot unchanged and the destination
slot reading the same. -/
theorem slot_send (c n p : Dev nD) (hn : n = p) {s : Shape} {e : EltTy} {s' : Shape} {Ms Md : Memref sig .tc .vmem s e}
    {offs offd size : Fin s.rank → ℕ}
    {hs : ∀ a, offs a + size a ≤ s.size a} {hd : ∀ a, offd a + size a ≤ s.size a}
    {q q' : (⟨s.rank, size⟩ : Shape).Squeezes s'} {X Y : (⟨s.rank, size⟩ : Shape).Idx → Val e}
    {sS sR : DmaSem sig}
    {hsc : ((part Md offd size hd).squeeze s' q' : Memref sig (Dev.tc n : Thread nD τ).2.kind .vmem s' e).view.ref.isScScratch = false}
    {hsrc : ((part Ms offs size hs).squeeze s' q).view.WordExact} {hdst : ((part Md offd size hd).squeeze s' q').view.WordExact}
    {hsem : DmaTarget.Typed .vmem (.dma sR) (.remote (Dev.tc n : Thread nD τ) ((part Md offd size hd).squeeze s' q') (.dma sS) hsc)}
    {k : PUnit → Prog (TpuEff nD τ sig Val Λ .tc) α} {κ₁ κ₂ : ℕ} {d₁ d₂ : D} (N : ℕ)
    (hd₁ : d₁ ∈ Rounds.Schedule.duties Rd ((c : Thread nD τ), SemLoc.dma sS) 0) (hd₂ : d₂ ∈ Rounds.Schedule.duties Rd ((p : Thread nD τ), SemLoc.dma sR) 0)
    (hN : ((part Md offd size hd).squeeze s' q').view.amount (.dma sR) = N)
    (hk₁ : Rounds.Schedule.amount Rd ((c : Thread nD τ), SemLoc.dma sS) 0 d₁ = N) (hk₂ : Rounds.Schedule.amount Rd ((p : Thread nD τ), SemLoc.dma sR) 0 d₂ = N)
    {O₀ : CellTallies nD τ sig Unit} (O : CellTallies nD τ sig Unit) (hO : O₀ = O + tallyAt ((p : Thread nD τ), SemLoc.dma sR) () N)
    {W : Waits sig Unit}
    (hpay₁ : slot (U := U) c Ms offs size hs X ⊢ Rounds.Schedule.payload Rd ((c : Thread nD τ), SemLoc.dma sS) 0 d₁)
    (hpay₂ : slot (U := U) p Md offd size hd X ⊢ Rounds.Schedule.payload Rd ((p : Thread nD τ), SemLoc.dma sR) 0 d₂)
    (hr : τ.routes (c : Thread nD τ) (p : Thread nD τ) = true := by routes) :
    iprop(Rounds.cellInv E Rd κ₁ ((c : Thread nD τ), SemLoc.dma sS) ∗ Rounds.cellInv E Rd κ₂ ((p : Thread nD τ), SemLoc.dma sR)
        ∗ slot (U := U) c Ms offs size hs X ∗ slot (U := U) p Md offd size hd Y
        ∗ owes (c : Thread nD τ) O₀ W
        ∗ Rounds.dutyTok E ((c : Thread nD τ), SemLoc.dma sS) 0 d₁ ∗ Rounds.reached (D := D) E ((c : Thread nD τ), SemLoc.dma sS) 0
        ∗ Rounds.dutyTok E ((p : Thread nD τ), SemLoc.dma sR) 0 d₂ ∗ Rounds.reached (D := D) E ((p : Thread nD τ), SemLoc.dma sR) 0)
      ⊢ iprop(((cred (tallyAt ((c : Thread nD τ), SemLoc.dma sS) () N) ∗ owes (c : Thread nD τ) O W)
            -∗ wp frame (wpE defs 𝒱 (c : Thread nD τ) none) Set.univ (k ⟨⟩) Φ)
          -∗ wp frame (wpE defs 𝒱 (c : Thread nD τ) none) Set.univ
              (.op (.enqueueDma ((part Ms offs size hs).squeeze s' q)
                (.remote (Dev.tc n : Thread nD τ) ((part Md offd size hd).squeeze s' q') (.dma sS) hsc) (.dma sR) hsrc hdst hsem) k) Φ) := by
  subst hn
  unfold slot owns
  iintro ⟨H1, H2, ⟨%fs, %hfs, Hs⟩, ⟨%fd, %hfd, Hd⟩, HO, HA, HB, HC, HD⟩ Hk
  iapply (Rounds.wp_send_pointsTo 𝒱 E Rd (c : Thread nD τ) none (κ₁ := κ₁) (κ₂ := κ₂)
    (src := (part Ms offs size hs).squeeze s' q) (dst := (part Md offd size hd).squeeze s' q') (c' := (n : Thread nD τ))
    (r₁ := 0) (r₂ := 0) (d₁ := d₁) (d₂ := d₂) (q := fullShare) (fs := fs) (fd := fd) hd₁ hd₂ () () N hN hk₁ hk₂ O hO (W := W)
    (by
      rw [View.set_reshape]
      refine BIBase.Entails.trans ?_ hpay₁
      unfold slot owns
      iintro H
      iexists fs
      isplitr; · ipureintro; exact hfs
      iexact H)
    (by
      rw [View.set_reshape]
      refine BIBase.Entails.trans ?_ hpay₂
      unfold slot owns
      iintro H
      iexists _
      isplitr; · ipureintro; exact (landed_read Ms Md q q' fs fd).trans hfs
      iexact H) hr) $$ [H1 H2 Hs Hd HO HA HB HC HD]
  · isplitl [H1]; · iexact H1
    isplitl [H2]; · iexact H2
    isplitl [Hs]; · rw [View.set_reshape]; iexact Hs
    isplitl [Hd]; · rw [View.set_reshape]; iexact Hd
    isplitl [HO]; · iexact HO
    isplitl [HA]; · iexact HA
    isplitl [HB]; · iexact HB
    isplitl [HC]; · iexact HC
    iexact HD
  iexact Hk

end Send

section Split

variable (c : Dev nD) {s : Shape} {e : EltTy} (M : Memref sig .tc .vmem s e)
variable {n : ℕ} (off : Fin n → Fin s.rank → ℕ) (size : Fin s.rank → ℕ) (h : ∀ t a, off t a + size a ≤ s.size a)
  (hd : ∀ t t', t ≠ t' → Disjoint (Rect.unit (off t) size (h t)).set (Rect.unit (off t') size (h t')).set)
  (hcov : (Finset.univ : Finset (Fin n)).biUnion (fun t => (Rect.unit (off t) size (h t)).set) = Finset.univ)
include hd hcov

/-- A memref is its slots, each at its part of what the memref reads. -/
theorem slots_split (Y : s.Idx → Val e) :
    owns (U := U) (Ix := Unit) (Name := ℕ) (Lvl := ℕ) (c : Thread nD τ) M fullShare Y
      ⊢ bigSep Finset.univ fun t => slot (U := U) c M (off t) size (h t) fun j => Y ((Rect.unit (off t) size (h t)).emb j) :=
  owns_rects (c : Thread nD τ) M fullShare (fun t => Rect.unit (off t) size (h t)) (fun _ _ => rfl) hd hcov Y

/-- Slots that agree with one array are the memref at that array. -/
theorem slots_join [∀ e, Nonempty (Val e)] (Xs : Fin n → (⟨s.rank, size⟩ : Shape).Idx → Val e) (Y : s.Idx → Val e)
    (hY : ∀ t j, Y ((Rect.unit (off t) size (h t)).emb j) = Xs t j) :
    (bigSep Finset.univ fun t => slot (U := U) c M (off t) size (h t) (Xs t))
      ⊢ owns (U := U) (Ix := Unit) (Name := ℕ) (Lvl := ℕ) (c : Thread nD τ) M fullShare Y := by
  have e : Xs = fun t j => Y ((Rect.unit (off t) size (h t)).emb j) := by funext t j; exact (hY t j).symm
  subst e
  exact owns_of_rects (T := Fin n) (c : Thread nD τ) M fullShare (fun t => Rect.unit (off t) size (h t)) (fun _ _ => rfl) hd hcov Y

/-- Slots at any contents are the memref at some contents. -/
theorem slots_join_some [∀ e, Nonempty (Val e)] (Xs : Fin n → (⟨s.rank, size⟩ : Shape).Idx → Val e) :
    (bigSep Finset.univ fun t => slot (U := U) c M (off t) size (h t) (Xs t))
      ⊢ iprop(∃ Y, owns (U := U) (Ix := Unit) (Name := ℕ) (Lvl := ℕ) (c : Thread nD τ) M fullShare Y) := by
  classical
  have hex : ∀ i : s.Idx, ∃ p : Fin n × (⟨s.rank, size⟩ : Shape).Idx, (Rect.unit (off p.1) size (h p.1)).emb p.2 = i := by
    intro i
    obtain ⟨t, -, hi⟩ := Finset.mem_biUnion.mp (hcov.symm ▸ Finset.mem_univ i)
    rw [← Rect.map_emb_univ, Finset.mem_map] at hi
    obtain ⟨j, -, rfl⟩ := hi
    exact ⟨(t, j), rfl⟩
  choose p hp using hex
  refine (slots_join c M off size h hd hcov Xs (fun i => Xs (p i).1 (p i).2) fun t j => ?_).trans ?_
  · have hp' := hp ((Rect.unit (off t) size (h t)).emb j)
    generalize p ((Rect.unit (off t) size (h t)).emb j) = q at hp'
    obtain ⟨t', j'⟩ := q
    have ht : t' = t := by
      by_contra hne
      exact Finset.disjoint_left.mp (hd t' t hne) (hp' ▸ (Rect.map_emb_univ _ ▸ Finset.mem_map_of_mem _ (Finset.mem_univ j')))
        (Rect.map_emb_univ _ ▸ Finset.mem_map_of_mem _ (Finset.mem_univ j))
    subst ht
    rw [(Rect.unit (off t') size (h t')).emb.injective hp']
  · iintro H
    iexists _
    iexact H

end Split

end Cert.MoE
-- ==== Proof.Vals.lean ====
/-
# What each device computes

The values the kernel's steps produce on device `c`, named in program order, as functions of the four arguments of
every device. What a device receives is what its peer sent, so the later values read the earlier ones of the peers.
-/
module

public import proofs.«01_k».proof.Proof.Gen.KernelIdeal
public import proofs.«01_k».proof.Proof.Gen.KernelIdeal.Skeleton

@[expose] public section

noncomputable section

namespace Cert.MoE

open Idealize.ShloMosaic Cert.KernelIdeal Cert.KernelIdeal.Gen

variable {F : FTy → Type} [FloatOps F]

/-- The device a slot `j` of device `c` talks to. -/
def peer (c : Dev nD) (j : Fin 3) : Dev nD := ⟨(c.val + j.val + 1) % 4, Nat.mod_lt _ (by decide)⟩

theorem peer_peer0 (c : Dev nD) : peer (peer c 0) 2 = c := by revert c; decide
theorem peer_peer1 (c : Dev nD) : peer (peer c 1) 1 = c := by revert c; decide
theorem peer_peer2 (c : Dev nD) : peer (peer c 2) 0 = c := by revert c; decide

/-- The four arguments of every device. -/
structure Args (F : FTy → Type) where
  /-- The device's tokens. -/
  x : Dev nD → Vec F S512x256 .f32
  /-- The router's weights. -/
  w : Dev nD → Vec F S256x16 .f32
  /-- The two experts of each token. -/
  i : Dev nD → Vec F S512x2 .i32
  /-- The device's experts. -/
  e : Dev nD → Vec F S4x256x512 .f32

variable (A : Args F) (c : Dev nD)

/-! ## The device's number and the scalars made of it -/

/-- The device's position on the ring. -/
def w2 : BitVec 32 := Scalar.remsi (Scalar.divsi (Dev.word c) 1#32) 4#32
/-- The divisor of the wrapped remainders. -/
def w60 : BitVec 32 := Scalar.select (Scalar.cmpi .eq 4#32 0#32) 1#32 4#32
/-- The remainder at offset two. -/
def w61 : BitVec 32 := Scalar.remsi (Scalar.addi (w2 c) 2#32) w60
/-- The first expert of the device two further. -/
def w319 : BitVec 32 := Scalar.muli (Scalar.select (Scalar.andi (Scalar.xori (Scalar.cmpi .slt (w61 c) 0#32) (Scalar.cmpi .slt w60 0#32)) (Scalar.cmpi .ne (w61 c) 0#32)) (Scalar.addi (w61 c) w60) (w61 c)) 4#32

/-! ## Routing -/

/-- The tokens narrowed. -/
def xb : FVec F S512x256 .bf16 := k0_pay1 (A.x c)
/-- The strictly-below-diagonal matrix of ones. -/
def tri : FVec F S512x512 .f32 := k0_pay2
/-- The first column of the routing indices, as loaded. -/
def col0 : Vec F S512x1 .i32 := fun j => A.i c ((Rect.unit (s := S512x2) ![0, 0] S512x1.size inb_S512x2_S512x1_0_0).emb j)
/-- The second column of the routing indices, as loaded. -/
def col1 : Vec F S512x1 .i32 := fun j => A.i c ((Rect.unit (s := S512x2) ![0, 1] S512x1.size inb_S512x2_S512x1_0_1).emb j)
/-- Each token's first expert. -/
def e0 : IVec S512x1 32 := k0_pay3 (col0 A c)
/-- Each token's second expert. -/
def e1 : IVec S512x1 32 := k0_pay4 (col1 A c)
/-- Which tokens go to the device two further. -/
def sel2 : FVec F S512x1 .f32 := k0_pay5 (e0 A c) (e1 A c) w60 (w61 c) (Scalar.cmpi .ne (w61 c) 0#32) (Scalar.cmpi .slt (w61 c) 0#32) (Scalar.cmpi .slt w60 0#32)
/-- Which tokens go to the next device. -/
def sel1 : FVec F S512x1 .f32 := k0_pay6 (w2 c) (e0 A c) (e1 A c)
/-- Which tokens go to the device three further. -/
def sel3 : FVec F S512x1 .f32 := k0_pay7 (w2 c) (e0 A c) (e1 A c)
/-- How many tokens before each one go the same way, for the three ways. -/
def rk : FVec F S512x3 .f32 := k0_pay8 (w2 c) tri (e0 A c) (e1 A c) (sel2 A c) (sel1 A c)
/-- The gathering matrix towards the device two further. -/
def S2 : FVec F S320x512 .bf16 := k0_pay9 (w2 c) tri (e0 A c) (e1 A c) (sel2 A c) (sel1 A c)
/-- The same matrix transposed. -/
def T2 : FVec F S512x320 .bf16 := k0_pay10 (w2 c) tri (e0 A c) (e1 A c) (sel2 A c) (sel1 A c)
/-- The ranks towards the next device. -/
def rk1 : FVec F S512x1 .f32 := k0_pay13 (rk A c)
/-- The gathering matrix towards the next device. -/
def S1m : FVec F S320x512 .bf16 := k0_pay14 (sel1 A c) (rk1 A c)
/-- The gathering matrix towards the device three further. -/
def S3m : FVec F S320x512 .bf16 := k0_pay17 (sel3 A c) (rk A c)

/-- The transposed gathering matrices kept for the end, by slot. -/
def ST : Fin 3 → Vec F S1x512x320 .bf16
  | 0 => k0_pay15 (sel1 A c) (rk1 A c)
  | 1 => k0_pay11 (T2 A c)
  | 2 => k0_pay18 (sel3 A c) (rk A c)

/-- The gathered tokens sent, by slot. -/
def XS : Fin 3 → Vec F S1x320x256 .bf16
  | 0 => k0_pay16 (sel1 A c) (rk1 A c) (xb A c)
  | 1 => k0_pay12 (S2 A c) (xb A c)
  | 2 => k0_pay19 (sel3 A c) (rk A c) (xb A c)

/-! ## Gates -/

/-- The router's probabilities. -/
def pr : FVec F S512x16 .f32 := k0_pay20 (A.x c) (A.w c)
/-- The expert numbers along a row. -/
def it16 : IVec S512x16 32 := iota .tc S512x16 32 [1] iota_S512x16_d1_w32
/-- Each token's first expert, spread along its row. -/
def e0b : IVec S512x16 32 := k0_pay21 (e0 A c)
/-- The normalised weights of the two experts, zero elsewhere. -/
def wt : FVec F S512x16 .f32 := k0_pay22 (e1 A c) (pr A c) it16 (e0b A c)
/-- The compacted gates towards the device three further, before transposing. -/
def m33 : FVec F S320x4 .f32 := k0_pay33 (S3m A c) it16 (wt A c) (Scalar.addi (w2 c) 3#32) 4#32 0#32

/-- The gates sent, by slot. -/
def GS : Fin 3 → Vec F S1x4x320 .bf16
  | 0 => k0_pay32 (S1m A c) (wt A c) (k0_pay27 (w2 c) it16 (wt A c)) (k0_pay28 (w2 c) it16 (wt A c)) (k0_pay29 (w2 c) it16 (wt A c)) (k0_pay30 (w2 c) it16) k0_pay31
  | 1 => k0_pay26 (S2 A c) it16 (wt A c) (w319 c) (k0_pay23 (w2 c) (e1 A c) (pr A c) it16 (e0b A c)) (k0_pay24 (w2 c) (e1 A c) (pr A c) it16 (e0b A c)) (k0_pay25 (w2 c) (e1 A c) (pr A c) it16 (e0b A c))
  | 2 => k0_pay34 (m33 A c)

/-! ## The experts -/

/-- Expert `l` of the device, as loaded. -/
def slab : Fin 4 → Vec F S1x256x512 .f32
  | 0 => fun j => A.e c ((Rect.unit (s := S4x256x512) ![0, 0, 0] S1x256x512.size inb_S4x256x512_S1x256x512_0_0_0).emb j)
  | 1 => fun j => A.e c ((Rect.unit (s := S4x256x512) ![1, 0, 0] S1x256x512.size inb_S4x256x512_S1x256x512_1_0_0).emb j)
  | 2 => fun j => A.e c ((Rect.unit (s := S4x256x512) ![2, 0, 0] S1x256x512.size inb_S4x256x512_S1x256x512_2_0_0).emb j)
  | 3 => fun j => A.e c ((Rect.unit (s := S4x256x512) ![3, 0, 0] S1x256x512.size inb_S4x256x512_S1x256x512_3_0_0).emb j)

/-- Expert `l` narrowed. -/
def EW : Fin 4 → FVec F S256x512 .bf16
  | 0 => k0_pay35 (slab A c 0)
  | 1 => k0_pay36 (slab A c 1)
  | 2 => k0_pay37 (slab A c 2)
  | 3 => k0_pay38 (slab A c 3)

/-- The device's four experts side by side. -/
def E : Vec F S256x2048 .bf16 := fun i =>
  EW A c ⟨(i 1).val / 512, by have : (i 1).val < 2048 := (i 1).isLt; omega⟩
    (fun a => match a with
      | 0 => ⟨(i 0).val, (i 0).isLt⟩
      | 1 => ⟨(i 1).val % 512, Nat.mod_lt _ (by decide)⟩)

/-! ## What arrives, the experts' work and the result -/

/-- The gathered tokens that arrive, by slot. -/
def XC : Fin 3 → Vec F S1x320x256 .bf16
  | 0 => XS A (peer c 0) 2
  | 1 => XS A (peer c 1) 1
  | 2 => XS A (peer c 2) 0

/-- The gates that arrive, by slot. -/
def GC : Fin 3 → Vec F S1x4x320 .bf16
  | 0 => GS A (peer c 0) 2
  | 1 => GS A (peer c 1) 1
  | 2 => GS A (peer c 2) 0

/-- The tokens of slot one without the leading axis. -/
def v651 : FVec F S320x256 .bf16 := k0_pay41 (XC A c 1)

/-- The experts' partial results sent back, by slot. -/
def PS : Fin 3 → Vec F S1x320x512 .bf16
  | 0 => k0_pay40 (k0_pay39 (XC A c 0) (E A c)) (GC A c 0)
  | 1 => k0_pay46 (k0_pay42 (v651 A c) (E A c)) (k0_pay43 (GC A c 1)) (k0_pay44 (v651 A c) (E A c) (GC A c 1)) (k0_pay45 (GC A c 1))
  | 2 => k0_pay48 (k0_pay47 (XC A c 2) (E A c)) (GC A c 2)

/-- The partial results that come back, by slot. -/
def PR : Fin 3 → Vec F S1x320x512 .bf16
  | 0 => PS A (peer c 0) 2
  | 1 => PS A (peer c 1) 1
  | 2 => PS A (peer c 2) 0

/-- The device's own experts on its own tokens. -/
def own51 : FVec F S512x512 .f32 := k0_pay51 (w2 c) it16 (wt A c) (k0_pay49 (xb A c) (E A c)) (k0_pay50 (w2 c) it16 (wt A c)) (Scalar.addi (Scalar.muli (w2 c) 4#32) 1#32)
/-- The sum after two of the three returns. -/
def a52 : FVec F S512x512 .f32 := k0_pay52 (own51 A c) (ST A c 2) (PR A c 2) (ST A c 0) (PR A c 0)
/-- The device's result. -/
def OUT : Vec F S512x512 .f32 := k0_pay53 (a52 A c) (ST A c 1) (PR A c 1)

end Cert.MoE
-- ==== Proof.Proto.lean ====
/-
# The protocol

Who waits for whom, what is handed over and what it holds. Slot `j` of device `c` talks to `peer c j`; what leaves
slot `j` lands in slot `2 - j` there. Every device has one barrier cell, nine sending cells and nine receiving cells,
each used once.

* The barrier cell has three duties. Duty `d` at `c` is paid by `peer c d`, and hands over that peer's landing slots.
* A sending cell gives the source slot back.
* A receiving cell hands over the landing slot, holding what the peer sent.
-/
module

public import proofs.«01_k».proof.Proof.Gen.KernelIdeal.Launch
public import proofs.«01_k».proof.Proof.Slot
public import proofs.«01_k».proof.Proof.Vals

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' ghost state of the kernel's own cells. -/
abbrev UB : Type := URounds (GSem nD τ sig) (Fin 3)
/-- With the pipeline's. -/
abbrev UU : Type := UR sig nD τ × UB

local notation "𝕄" => MT nD τ sig Unit (Elt F) ℕ UU ℕ

/-- The pipeline's part. -/
abbrev EP : Emb (UR sig nD τ) (MT nD τ sig Unit (Elt F) ℕ UU ℕ) := embL
/-- The kernel's part. -/
abbrev ER : Emb UB (MT nD τ sig Unit (Elt F) ℕ UU ℕ) := embR

/-- No variants are used. -/
abbrev 𝒱₀ : Variants := Variants.none

/-! ## The buffers and their slots -/

/-- A three-slot buffer. -/
abbrev xsM : Memref sig .tc .vmem S3x320x256 .bf16 := Memref.whole cc0_scratch4
/-- Slot `j` of it. -/
abbrev xsS (c : Dev nD) (j : ℕ) (h : ∀ a, (![j, 0, 0] : Fin 3 → ℕ) a + S1x320x256.size a ≤ S3x320x256.size a) (X : Vec F S1x320x256 .bf16) : sProp 𝕄 :=
  slot (U := UU) (s := S3x320x256) c xsM ![j, 0, 0] S1x320x256.size h X

/-- A three-slot buffer. -/
abbrev xcM : Memref sig .tc .vmem S3x320x256 .bf16 := Memref.whole cc0_scratch5
/-- Slot `j` of it. -/
abbrev xcS (c : Dev nD) (j : ℕ) (h : ∀ a, (![j, 0, 0] : Fin 3 → ℕ) a + S1x320x256.size a ≤ S3x320x256.size a) (X : Vec F S1x320x256 .bf16) : sProp 𝕄 :=
  slot (U := UU) (s := S3x320x256) c xcM ![j, 0, 0] S1x320x256.size h X

/-- A three-slot buffer. -/
abbrev gsM : Memref sig .tc .vmem S3x4x320 .bf16 := Memref.whole cc0_scratch2
/-- Slot `j` of it. -/
abbrev gsS (c : Dev nD) (j : ℕ) (h : ∀ a, (![j, 0, 0] : Fin 3 → ℕ) a + S1x4x320.size a ≤ S3x4x320.size a) (X : Vec F S1x4x320 .bf16) : sProp 𝕄 :=
  slot (U := UU) (s := S3x4x320) c gsM ![j, 0, 0] S1x4x320.size h X

/-- A three-slot buffer. -/
abbrev gcM : Memref sig .tc .vmem S3x4x320 .bf16 := Memref.whole cc0_scratch3
/-- Slot `j` of it. -/
abbrev gcS (c : Dev nD) (j : ℕ) (h : ∀ a, (![j, 0, 0] : Fin 3 → ℕ) a + S1x4x320.size a ≤ S3x4x320.size a) (X : Vec F S1x4x320 .bf16) : sProp 𝕄 :=
  slot (U := UU) (s := S3x4x320) c gcM ![j, 0, 0] S1x4x320.size h X

/-- A three-slot buffer. -/
abbrev psM : Memref sig .tc .vmem S3x320x512 .bf16 := Memref.whole cc0_scratch7
/-- Slot `j` of it. -/
abbrev psS (c : Dev nD) (j : ℕ) (h : ∀ a, (![j, 0, 0] : Fin 3 → ℕ) a + S1x320x512.size a ≤ S3x320x512.size a) (X : Vec F S1x320x512 .bf16) : sProp 𝕄 :=
  slot (U := UU) (s := S3x320x512) c psM ![j, 0, 0] S1x320x512.size h X

/-- A three-slot buffer. -/
abbrev pcM : Memref sig .tc .vmem S3x320x512 .bf16 := Memref.whole cc0_scratch8
/-- Slot `j` of it. -/
abbrev pcS (c : Dev nD) (j : ℕ) (h : ∀ a, (![j, 0, 0] : Fin 3 → ℕ) a + S1x320x512.size a ≤ S3x320x512.size a) (X : Vec F S1x320x512 .bf16) : sProp 𝕄 :=
  slot (U := UU) (s := S3x320x512) c pcM ![j, 0, 0] S1x320x512.size h X

/-- A three-slot buffer. -/
abbrev stM : Memref sig .tc .vmem S3x512x320 .bf16 := Memref.whole cc0_scratch6
/-- Slot `j` of it. -/
abbrev stS (c : Dev nD) (j : ℕ) (h : ∀ a, (![j, 0, 0] : Fin 3 → ℕ) a + S1x512x320.size a ≤ S3x512x320.size a) (X : Vec F S1x512x320 .bf16) : sProp 𝕄 :=
  slot (U := UU) (s := S3x512x320) c stM ![j, 0, 0] S1x512x320.size h X

/-! ## The cells -/

/-- The barrier semaphore. -/
abbrev barS : Sem sig := (SemArray.scalar (sig.barrier 0 rfl) : Sems sig S_).sem

/-- A device's nineteen cells: the barrier, then three each of tokens sent and received, gates sent and received,
    results sent and received. -/
def csem (k : Fin 19) : SemLoc sig := if k.val = 0 then .reg barS else .dma ⟨k.val + 4, Nat.lt_of_lt_of_le (Nat.add_lt_add_right k.isLt 4) (by decide)⟩
/-- Cell `k` of device `c`. -/
abbrev kcell (ck : Dev nD × Fin 19) : GSem nD τ sig := ((ck.1 : Thread nD τ), csem ck.2)

/-- A token transfer's credit. -/
def Nx : ℕ := RefSig.tileCredit S320x256 .bf16
/-- A gate transfer's credit. -/
def Ng : ℕ := RefSig.tileCredit S4x320 .bf16
/-- A result transfer's credit. -/
def Np : ℕ := RefSig.tileCredit S320x512 .bf16
theorem Nx_pos : 0 < Nx := RefSig.tileCredit_pos _ _ (by decide)
theorem Ng_pos : 0 < Ng := RefSig.tileCredit_pos _ _ (by decide)
theorem Np_pos : 0 < Np := RefSig.tileCredit_pos _ _ (by decide)

/-- The credit of a transfer on DMA semaphore `q`. -/
def amq (q : ℕ) : ℕ := if q < 11 then Nx else if q < 17 then Ng else Np
theorem amq_pos (q : ℕ) : 0 < amq q := by unfold amq; split; exact Nx_pos; split; exact Ng_pos; exact Np_pos
/-- What one payment of cell `k` adds. -/
def amk (k : Fin 19) : ℕ := if k.val = 0 then 1 else amq (k.val + 4)

/-! ## The payloads -/

variable (A : Args F)

/-- What a transfer's cell hands over on device `c`. -/
def dmaPay (c : Dev nD) (q : Fin 23) : sProp 𝕄 :=
  match q with
  | ⟨5, _⟩ => xsS c 0 inb_S3x320x256_S1x320x256_0_0_0 (XS A c 0)
  | ⟨6, _⟩ => xsS c 1 inb_S3x320x256_S1x320x256_1_0_0 (XS A c 1)
  | ⟨7, _⟩ => xsS c 2 inb_S3x320x256_S1x320x256_2_0_0 (XS A c 2)
  | ⟨8, _⟩ => xcS c 0 inb_S3x320x256_S1x320x256_0_0_0 (XC A c 0)
  | ⟨9, _⟩ => xcS c 1 inb_S3x320x256_S1x320x256_1_0_0 (XC A c 1)
  | ⟨10, _⟩ => xcS c 2 inb_S3x320x256_S1x320x256_2_0_0 (XC A c 2)
  | ⟨11, _⟩ => gsS c 0 inb_S3x4x320_S1x4x320_0_0_0 (GS A c 0)
  | ⟨12, _⟩ => gsS c 1 inb_S3x4x320_S1x4x320_1_0_0 (GS A c 1)
  | ⟨13, _⟩ => gsS c 2 inb_S3x4x320_S1x4x320_2_0_0 (GS A c 2)
  | ⟨14, _⟩ => gcS c 0 inb_S3x4x320_S1x4x320_0_0_0 (GC A c 0)
  | ⟨15, _⟩ => gcS c 1 inb_S3x4x320_S1x4x320_1_0_0 (GC A c 1)
  | ⟨16, _⟩ => gcS c 2 inb_S3x4x320_S1x4x320_2_0_0 (GC A c 2)
  | ⟨17, _⟩ => psS c 0 inb_S3x320x512_S1x320x512_0_0_0 (PS A c 0)
  | ⟨18, _⟩ => psS c 1 inb_S3x320x512_S1x320x512_1_0_0 (PS A c 1)
  | ⟨19, _⟩ => psS c 2 inb_S3x320x512_S1x320x512_2_0_0 (PS A c 2)
  | ⟨20, _⟩ => pcS c 0 inb_S3x320x512_S1x320x512_0_0_0 (PR A c 0)
  | ⟨21, _⟩ => pcS c 1 inb_S3x320x512_S1x320x512_1_0_0 (PR A c 1)
  | ⟨22, _⟩ => pcS c 2 inb_S3x320x512_S1x320x512_2_0_0 (PR A c 2)
  | _ => iprop(emp)

/-- What the barrier's duty `d` hands device `c`: the landing slots of `peer c d`. -/
def barPay (c : Dev nD) (d : Fin 3) : sProp 𝕄 :=
  match d with
  | 0 => iprop((∃ X, xcS (F := F) (peer c 0) 2 inb_S3x320x256_S1x320x256_2_0_0 X) ∗ (∃ X, gcS (F := F) (peer c 0) 2 inb_S3x4x320_S1x4x320_2_0_0 X) ∗ (∃ X, pcS (F := F) (peer c 0) 2 inb_S3x320x512_S1x320x512_2_0_0 X))
  | 1 => iprop((∃ X, xcS (F := F) (peer c 1) 1 inb_S3x320x256_S1x320x256_1_0_0 X) ∗ (∃ X, gcS (F := F) (peer c 1) 1 inb_S3x4x320_S1x4x320_1_0_0 X) ∗ (∃ X, pcS (F := F) (peer c 1) 1 inb_S3x320x512_S1x320x512_1_0_0 X))
  | 2 => iprop((∃ X, xcS (F := F) (peer c 2) 0 inb_S3x320x256_S1x320x256_0_0_0 X) ∗ (∃ X, gcS (F := F) (peer c 2) 0 inb_S3x4x320_S1x4x320_0_0_0 X) ∗ (∃ X, pcS (F := F) (peer c 2) 0 inb_S3x320x512_S1x320x512_0_0_0 X))

instance dmaPay_storable (c : Dev nD) (q : Fin 23) : BI.Storable (upEmb : UEmb _ 𝕄) (dmaPay A c q) := by
  unfold dmaPay
  split <;> infer_instance

omit [FloatOps F] in
instance barPay_storable (c : Dev nD) (d : Fin 3) : BI.Storable (upEmb : UEmb _ 𝕄) (barPay (F := F) c d) := by
  unfold barPay
  split <;> infer_instance

/-- The schedule: one round, round 0. -/
def sched : Rounds.Schedule (GSem nD τ sig) (Fin 3) 𝕄 where
  duties g r := if r = 0 ∧ g.1.2 = .tc then (match g.2 with | .reg _ => Finset.univ | .dma q => if 5 ≤ q.val then {0} else ∅) else ∅
  unitless _ := False
  amount g _ _ := match g.2 with | .reg _ => 1 | .dma q => amq q.val
  payload g _ d := match g.2 with | .reg _ => barPay g.1.1 d | .dma q => dmaPay A g.1.1 q
  amount_pos g _ _ _ := by
    rcases g with ⟨t, s | q⟩
    · exact Nat.one_pos
    · exact amq_pos _

instance sched_payload_storable (g : GSem nD τ sig) (r : ℕ) (d : Fin 3) :
    BI.Storable (upEmb : UEmb _ 𝕄) ((sched A).payload g r d) := by
  rcases g with ⟨t, s | q⟩
  · exact barPay_storable _ _
  · exact dmaPay_storable _ _ _

section Tables

variable (c : Dev nD) (k : Fin 19)

theorem csem_zero : csem 0 = .reg barS := rfl
theorem csem_dma (hk : k.val ≠ 0) : ∃ h, csem k = .dma ⟨k.val + 4, h⟩ := ⟨_, if_neg hk⟩

theorem duties_bar : (sched A).duties (kcell (c, 0)) 0 = Finset.univ := by
  show (if 0 = 0 ∧ (c : Thread nD τ).2 = .tc then (Finset.univ : Finset (Fin 3)) else ∅) = _
  exact if_pos ⟨rfl, rfl⟩
theorem duties_dma (hk : k.val ≠ 0) : (sched A).duties (kcell (c, k)) 0 = {0} := by
  obtain ⟨h, e⟩ := csem_dma k hk
  show (sched A).duties ((c : Thread nD τ), csem k) 0 = {0}
  rw [e]
  show (if 0 = 0 ∧ (c : Thread nD τ).2 = .tc then (if 5 ≤ k.val + 4 then ({0} : Finset (Fin 3)) else ∅) else ∅) = _
  rw [if_pos ⟨rfl, rfl⟩, if_pos (by omega)]
theorem duties_later (g : GSem nD τ sig) : ∀ r, 1 ≤ r → (sched A).duties g r = ∅ :=
  fun r hr => by dsimp only [sched]; exact if_neg fun h => by omega

theorem amount_cell (d : Fin 3) : (sched A).amount (kcell (c, k)) 0 d = amk k := by
  by_cases hk : k.val = 0
  · have : k = 0 := Fin.ext hk
    subst this; rfl
  · obtain ⟨h, e⟩ := csem_dma k hk
    show (sched A).amount ((c : Thread nD τ), csem k) 0 d = amk k
    rw [e]
    exact (if_neg hk).symm

theorem expect_bar : (sched A).expect (kcell (c, 0)) 0 = 3 := by
  unfold Schedule.expect Schedule.amountOf
  rw [duties_bar, Finset.sum_congr rfl fun d _ => amount_cell A c 0 d, Finset.sum_const, Finset.card_univ, Fintype.card_fin, smul_eq_mul]
  rfl
theorem expect_dma (hk : k.val ≠ 0) : (sched A).expect (kcell (c, k)) 0 = amk k := by
  unfold Schedule.expect Schedule.amountOf
  rw [duties_dma A c k hk, Finset.sum_singleton, amount_cell]

theorem rest_bar : bigSep ((sched A).duties ((c : Thread nD τ), SemLoc.reg barS) 0 \ ∅) (fun d => (sched A).payload ((c : Thread nD τ), SemLoc.reg barS) 0 d)
    = iprop(barPay c 0 ∗ barPay c 1 ∗ barPay c 2) := by
  have hd : (sched A).duties ((c : Thread nD τ), SemLoc.reg barS) 0 = Finset.univ := duties_bar A c
  rw [Finset.sdiff_empty, hd, bigSep_univ_eq_bigSepL [0, 1, 2] (by decide) (by decide)]
  rfl
theorem rest_dma (hk : k.val ≠ 0) : bigSep ((sched A).duties (kcell (c, k)) 0 \ ∅) (fun d => (sched A).payload (kcell (c, k)) 0 d)
    = (sched A).payload (kcell (c, k)) 0 0 := by
  rw [Finset.sdiff_empty, duties_dma A c k hk, bigSep_singleton]

end Tables

/-! ## What lands, and the devices named -/

theorem dev1_eq (c : Dev nD) : (⟨k0_dev1 c, k0_dev1_lt c⟩ : Dev nD) = peer c 1 := Fin.ext (by revert c; decide)
theorem dev2_eq (c : Dev nD) : (⟨k0_dev2 c, k0_dev2_lt c⟩ : Dev nD) = peer c 0 := Fin.ext (by revert c; decide)
theorem dev3_eq (c : Dev nD) : (⟨k0_dev3 c, k0_dev3_lt c⟩ : Dev nD) = peer c 2 := Fin.ext (by revert c; decide)
theorem dev4_eq (c : Dev nD) : (⟨k0_dev4 c, k0_dev4_lt c⟩ : Dev nD) = peer c 1 := Fin.ext (by revert c; decide)
theorem dev5_eq (c : Dev nD) : (⟨k0_dev5 c, k0_dev5_lt c⟩ : Dev nD) = peer c 0 := Fin.ext (by revert c; decide)
theorem dev6_eq (c : Dev nD) : (⟨k0_dev6 c, k0_dev6_lt c⟩ : Dev nD) = peer c 2 := Fin.ext (by revert c; decide)
theorem dev7_eq (c : Dev nD) : (⟨k0_dev7 c, k0_dev7_lt c⟩ : Dev nD) = peer c 1 := Fin.ext (by revert c; decide)
theorem dev8_eq (c : Dev nD) : (⟨k0_dev8 c, k0_dev8_lt c⟩ : Dev nD) = peer c 0 := Fin.ext (by revert c; decide)
theorem dev9_eq (c : Dev nD) : (⟨k0_dev9 c, k0_dev9_lt c⟩ : Dev nD) = peer c 2 := Fin.ext (by revert c; decide)
theorem dev10_eq (c : Dev nD) : (⟨k0_dev10 c, k0_dev10_lt c⟩ : Dev nD) = peer c 0 := Fin.ext (by revert c; decide)
theorem dev11_eq (c : Dev nD) : (⟨k0_dev11 c, k0_dev11_lt c⟩ : Dev nD) = peer c 1 := Fin.ext (by revert c; decide)
theorem dev12_eq (c : Dev nD) : (⟨k0_dev12 c, k0_dev12_lt c⟩ : Dev nD) = peer c 2 := Fin.ext (by revert c; decide)

theorem xc_land0 (c : Dev nD) : xcS (peer c 0) 2 inb_S3x320x256_S1x320x256_2_0_0 (XS A c 0) ⊢ (sched A).payload ((peer c 0 : Thread nD τ), SemLoc.dma ⟨10, by decide⟩) 0 0 := by
  show _ ⊢ xcS (peer c 0) 2 inb_S3x320x256_S1x320x256_2_0_0 (XC A (peer c 0) 2)
  show _ ⊢ xcS (peer c 0) 2 inb_S3x320x256_S1x320x256_2_0_0 (XS A (peer (peer c 0) 2) 0)
  rw [peer_peer0]
theorem xc_land1 (c : Dev nD) : xcS (peer c 1) 1 inb_S3x320x256_S1x320x256_1_0_0 (XS A c 1) ⊢ (sched A).payload ((peer c 1 : Thread nD τ), SemLoc.dma ⟨9, by decide⟩) 0 0 := by
  show _ ⊢ xcS (peer c 1) 1 inb_S3x320x256_S1x320x256_1_0_0 (XC A (peer c 1) 1)
  show _ ⊢ xcS (peer c 1) 1 inb_S3x320x256_S1x320x256_1_0_0 (XS A (peer (peer c 1) 1) 1)
  rw [peer_peer1]
theorem xc_land2 (c : Dev nD) : xcS (peer c 2) 0 inb_S3x320x256_S1x320x256_0_0_0 (XS A c 2) ⊢ (sched A).payload ((peer c 2 : Thread nD τ), SemLoc.dma ⟨8, by decide⟩) 0 0 := by
  show _ ⊢ xcS (peer c 2) 0 inb_S3x320x256_S1x320x256_0_0_0 (XC A (peer c 2) 0)
  show _ ⊢ xcS (peer c 2) 0 inb_S3x320x256_S1x320x256_0_0_0 (XS A (peer (peer c 2) 0) 2)
  rw [peer_peer2]
theorem gc_land0 (c : Dev nD) : gcS (peer c 0) 2 inb_S3x4x320_S1x4x320_2_0_0 (GS A c 0) ⊢ (sched A).payload ((peer c 0 : Thread nD τ), SemLoc.dma ⟨16, by decide⟩) 0 0 := by
  show _ ⊢ gcS (peer c 0) 2 inb_S3x4x320_S1x4x320_2_0_0 (GC A (peer c 0) 2)
  show _ ⊢ gcS (peer c 0) 2 inb_S3x4x320_S1x4x320_2_0_0 (GS A (peer (peer c 0) 2) 0)
  rw [peer_peer0]
theorem gc_land1 (c : Dev nD) : gcS (peer c 1) 1 inb_S3x4x320_S1x4x320_1_0_0 (GS A c 1) ⊢ (sched A).payload ((peer c 1 : Thread nD τ), SemLoc.dma ⟨15, by decide⟩) 0 0 := by
  show _ ⊢ gcS (peer c 1) 1 inb_S3x4x320_S1x4x320_1_0_0 (GC A (peer c 1) 1)
  show _ ⊢ gcS (peer c 1) 1 inb_S3x4x320_S1x4x320_1_0_0 (GS A (peer (peer c 1) 1) 1)
  rw [peer_peer1]
theorem gc_land2 (c : Dev nD) : gcS (peer c 2) 0 inb_S3x4x320_S1x4x320_0_0_0 (GS A c 2) ⊢ (sched A).payload ((peer c 2 : Thread nD τ), SemLoc.dma ⟨14, by decide⟩) 0 0 := by
  show _ ⊢ gcS (peer c 2) 0 inb_S3x4x320_S1x4x320_0_0_0 (GC A (peer c 2) 0)
  show _ ⊢ gcS (peer c 2) 0 inb_S3x4x320_S1x4x320_0_0_0 (GS A (peer (peer c 2) 0) 2)
  rw [peer_peer2]
theorem pc_land0 (c : Dev nD) : pcS (peer c 0) 2 inb_S3x320x512_S1x320x512_2_0_0 (PS A c 0) ⊢ (sched A).payload ((peer c 0 : Thread nD τ), SemLoc.dma ⟨22, by decide⟩) 0 0 := by
  show _ ⊢ pcS (peer c 0) 2 inb_S3x320x512_S1x320x512_2_0_0 (PR A (peer c 0) 2)
  show _ ⊢ pcS (peer c 0) 2 inb_S3x320x512_S1x320x512_2_0_0 (PS A (peer (peer c 0) 2) 0)
  rw [peer_peer0]
theorem pc_land1 (c : Dev nD) : pcS (peer c 1) 1 inb_S3x320x512_S1x320x512_1_0_0 (PS A c 1) ⊢ (sched A).payload ((peer c 1 : Thread nD τ), SemLoc.dma ⟨21, by decide⟩) 0 0 := by
  show _ ⊢ pcS (peer c 1) 1 inb_S3x320x512_S1x320x512_1_0_0 (PR A (peer c 1) 1)
  show _ ⊢ pcS (peer c 1) 1 inb_S3x320x512_S1x320x512_1_0_0 (PS A (peer (peer c 1) 1) 1)
  rw [peer_peer1]
theorem pc_land2 (c : Dev nD) : pcS (peer c 2) 0 inb_S3x320x512_S1x320x512_0_0_0 (PS A c 2) ⊢ (sched A).payload ((peer c 2 : Thread nD τ), SemLoc.dma ⟨20, by decide⟩) 0 0 := by
  show _ ⊢ pcS (peer c 2) 0 inb_S3x320x512_S1x320x512_0_0_0 (PR A (peer c 2) 0)
  show _ ⊢ pcS (peer c 2) 0 inb_S3x320x512_S1x320x512_0_0_0 (PS A (peer (peer c 2) 0) 2)
  rw [peer_peer2]
omit [FloatOps F] in
theorem barPay_of0 (c : Dev nD) : iprop((∃ X, xcS (F := F) c 0 inb_S3x320x256_S1x320x256_0_0_0 (X)) ∗ (∃ X, gcS (F := F) c 0 inb_S3x4x320_S1x4x320_0_0_0 (X)) ∗ (∃ X, pcS (F := F) c 0 inb_S3x320x512_S1x320x512_0_0_0 (X))) ⊢ barPay (F := F) (peer c 0) 2 := by
  show _ ⊢ iprop((∃ X, xcS (F := F) (peer (peer c 0) 2) 0 inb_S3x320x256_S1x320x256_0_0_0 (X)) ∗ (∃ X, gcS (F := F) (peer (peer c 0) 2) 0 inb_S3x4x320_S1x4x320_0_0_0 (X)) ∗ (∃ X, pcS (F := F) (peer (peer c 0) 2) 0 inb_S3x320x512_S1x320x512_0_0_0 (X)))
  rw [peer_peer0]
omit [FloatOps F] in
theorem barPay_of1 (c : Dev nD) : iprop((∃ X, xcS (F := F) c 1 inb_S3x320x256_S1x320x256_1_0_0 (X)) ∗ (∃ X, gcS (F := F) c 1 inb_S3x4x320_S1x4x320_1_0_0 (X)) ∗ (∃ X, pcS (F := F) c 1 inb_S3x320x512_S1x320x512_1_0_0 (X))) ⊢ barPay (F := F) (peer c 1) 1 := by
  show _ ⊢ iprop((∃ X, xcS (F := F) (peer (peer c 1) 1) 1 inb_S3x320x256_S1x320x256_1_0_0 (X)) ∗ (∃ X, gcS (F := F) (peer (peer c 1) 1) 1 inb_S3x4x320_S1x4x320_1_0_0 (X)) ∗ (∃ X, pcS (F := F) (peer (peer c 1) 1) 1 inb_S3x320x512_S1x320x512_1_0_0 (X)))
  rw [peer_peer1]
omit [FloatOps F] in
theorem barPay_of2 (c : Dev nD) : iprop((∃ X, xcS (F := F) c 2 inb_S3x320x256_S1x320x256_2_0_0 (X)) ∗ (∃ X, gcS (F := F) c 2 inb_S3x4x320_S1x4x320_2_0_0 (X)) ∗ (∃ X, pcS (F := F) c 2 inb_S3x320x512_S1x320x512_2_0_0 (X))) ⊢ barPay (F := F) (peer c 2) 0 := by
  show _ ⊢ iprop((∃ X, xcS (F := F) (peer (peer c 2) 0) 2 inb_S3x320x256_S1x320x256_2_0_0 (X)) ∗ (∃ X, gcS (F := F) (peer (peer c 2) 0) 2 inb_S3x4x320_S1x4x320_2_0_0 (X)) ∗ (∃ X, pcS (F := F) (peer (peer c 2) 0) 2 inb_S3x320x512_S1x320x512_2_0_0 (X)))
  rw [peer_peer2]

/-! ## What a device owes, and the order of the waits -/

/-- The payments into other devices' cells, last one first: which peer, which of its cells. -/
def tj : ℕ → Fin 3 × Fin 19
  | 0 => (2, 16) | 1 => (1, 17) | 2 => (0, 18)
  | 3 => (2, 10) | 4 => (0, 12) | 5 => (1, 11)
  | 6 => (2, 4) | 7 => (0, 6) | 8 => (1, 5)
  | 9 => (2, 0) | 10 => (0, 0) | _ => (1, 0)

/-- The cell the payment goes to. -/
abbrev tgt (c : Dev nD) (i : ℕ) : GSem nD τ sig := kcell (peer c (tj i).1, (tj i).2)

/-- What device `c` still owes when `n` payments are left. -/
def Ow (c : Dev nD) : ℕ → CellTallies nD τ sig Unit
  | 0 => 0
  | n + 1 => Ow c n + tallyAt (tgt c n) () (amk (tj n).2)

/-- The cells the obligations are stated over. -/
def L (g : GSem nD τ sig) : Finset Unit := if g.1.2 = .tc then {()} else ∅
/-- The level of a cell: the barrier first, then the tokens and gates received, then the results received. -/
def lvs : SemLoc sig → ℕ
  | .reg _ => 1
  | .dma q => if q.val < 8 then 0 else if q.val < 11 then 2 else if q.val < 14 then 0 else if q.val < 17 then 2 else if q.val < 20 then 0 else 3
/-- The levels by cell. -/
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem Ow_pos {c : Dev nD} {g : GSem nD τ sig} {u : Unit} : ∀ {n : ℕ}, 0 < Ow c n g u → ∃ i, i < n ∧ g = tgt c i
  | 0, h => absurd h (Nat.lt_irrefl 0)
  | n + 1, h => by
    unfold Ow at h
    rw [Pi.add_apply, Finsupp.add_apply, tallyAt_apply] at h
    by_cases hg : g = tgt c n
    · exact ⟨n, Nat.lt_succ_self n, hg⟩
    · rw [if_neg (fun h' => hg h'.1), Nat.add_zero] at h
      obtain ⟨i, hi, e⟩ := Ow_pos h
      exact ⟨i, Nat.lt_succ_of_lt hi, e⟩

omit [FloatOps F] in
/-- A device may wait for a cell below everything it still owes. -/
theorem mayWait (c : Dev nD) (sm : SemLoc sig) (n : ℕ) (h : ∀ i, i < n → lvs sm < lvs (csem (tj i).2)) :
    (levAts L lv : sProp 𝕄) ⊢ MayWait (c : Thread nD τ) sm () (Ow c n) :=
  MayOwe.of_cut (L := L) (lev := lv) (lvs sm) (fun p hp => by rw [Finset.mem_singleton.mp hp, L_tc]; exact Finset.mem_singleton_self _)
    (fun g u hg => by
      obtain ⟨i, -, rfl⟩ := Ow_pos hg
      exact Finset.mem_singleton_self _)
    (fun p hp => by rw [Finset.mem_singleton.mp hp]; exact Nat.le_refl _)
    (fun g u hg => by
      obtain ⟨i, hi, rfl⟩ := Ow_pos hg
      exact h i hi)

/-! ## The shared records and the steps -/

/-- Every cell's invariant and that its round 0 is reached. -/
def records (K : Dev nD × Fin 19 → ℕ) : sProp 𝕄 :=
  iprop((bigSep Finset.univ fun ck : Dev nD × Fin 19 => cellInv ER (sched A) (K ck) (kcell ck))
    ∗ bigSep Finset.univ fun ck : Dev nD × Fin 19 => reached ER (kcell ck) 0)

instance records_persistent (K : Dev nD × Fin 19 → ℕ) : BI.Persistent (records A K) := by unfold records; infer_instance

/-- A cell's invariant among the records. -/
theorem inv_at (K : Dev nD × Fin 19 → ℕ) (ck : Dev nD × Fin 19) : records A K ⊢ cellInv ER (sched A) (K ck) (kcell ck) := by
  unfold records
  iintro ⟨H, -⟩
  have h : (bigSep Finset.univ fun ck : Dev nD × Fin 19 => (cellInv ER (sched A) (K ck) (kcell ck) : sProp 𝕄)) ⊢ cellInv ER (sched A) (K ck) (kcell ck) :=
    bigSep_elim (Finset.mem_univ ck)
  iapply h; iexact H
/-- A cell's mark among the records. -/
theorem reached_at (K : Dev nD × Fin 19 → ℕ) (ck : Dev nD × Fin 19) : records A K ⊢ reached ER (kcell ck) 0 := by
  unfold records
  iintro ⟨-, H⟩
  have h : (bigSep Finset.univ fun ck : Dev nD × Fin 19 => (reached ER (kcell ck) 0 : sProp 𝕄)) ⊢ reached ER (kcell ck) 0 :=
    bigSep_elim (Finset.mem_univ ck)
  iapply h; iexact H

/-- What every step may read: the records and the levels. -/
def ctx (K : Dev nD × Fin 19 → ℕ) : sProp 𝕄 := iprop(records A K ∗ levAts L lv)
instance ctx_persistent (K : Dev nD × Fin 19 → ℕ) : BI.Persistent (ctx A K) := by unfold ctx; infer_instance

/-- Device `c` has `n` payments left. -/
def ow (c : Dev nD) (n : ℕ) : sProp 𝕄 := iprop(∃ W, owes (c : Thread nD τ) (Ow c n) W)

section Steps

variable (K : Dev nD × Fin 19 → ℕ) {α : Type} {Φ : α → sProp (MT nD τ sig Unit (Elt F) ℕ UU ℕ)}
variable (c : Dev nD)

/-- A signal of a peer's barrier: one payment made, its payload handed over. -/
theorem signal_step (n p : Dev nD) (hn : n = p) (i : ℕ) (d : Fin 3) (a : ℕ) (ha : a = 1) (hi : tgt c i = kcell (p, 0)) (hi' : amk (tj i).2 = 1)
    {k : PUnit → Prog (TpuEff nD τ sig (Elt F) Λ₀ .tc) α} :
    iprop(ctx A K ∗ ow c (i + 1) ∗ dutyTok ER (kcell (p, 0)) 0 d ∗ barPay p d)
      ⊢ iprop((ow c i -∗ wp frame (wpE (defs₀ (F := F)) 𝒱₀ (c : Thread nD τ) none) Set.univ (k ⟨⟩) Φ)
          -∗ wp frame (wpE (defs₀ (F := F)) 𝒱₀ (c : Thread nD τ) none) Set.univ (.op (.semSignal (Dev.tc n : Thread nD τ) barS a) k) Φ) := by
  subst hn
  subst ha
  unfold ctx ow
  iintro ⟨⟨#Hrec, -⟩, ⟨%W, HO⟩, Ht, Hp⟩ Hk
  iapply (Rounds.wp_signal 𝒱₀ ER (sched A) (c : Thread nD τ) none (dst := (n : Thread nD τ)) (sem := barS) (κ := K (n, 0))
      (d := d) (r := 0) (k' := 1) (duties_bar A n ▸ Finset.mem_univ d) (amount_cell A n 0 d) () (O₀ := Ow c (i + 1)) (Ow c i)
      (by rw [Ow, hi, hi']; rfl)) $$ [HO Ht Hp]
  · isplitr; · iapply (inv_at A K (n, 0)); iexact Hrec
    isplitl [HO]; · iexact HO
    isplitl [Ht]; · iexact Ht
    isplitl [Hp]
    · iapply (show (barPay (F := F) n d : sProp 𝕄) ⊢ (sched A).payload ((n : Thread nD τ), SemLoc.reg barS) 0 d from BI.Entails.refl _); iexact Hp
    iapply (reached_at A K (n, 0)); iexact Hrec
  iintro HO
  iapply Hk
  iexists W
  iexact HO

/-- The wait at the barrier: the three peers' landing slots, and the cell is finished with. -/
theorem barrier_step (i : ℕ) (h : ∀ i', i' < i → lvs (csem 0) < lvs (csem (tj i').2)) (a : ℕ) (ha : a = 3)
    {k : PUnit → Prog (TpuEff nD τ sig (Elt F) Λ₀ .tc) α} :
    iprop(ctx A K ∗ cred (tallyAt (kcell (c, 0)) () 3) ∗ ow c i ∗ atPos ER (kcell (c, 0)) 0 ∅ 0)
      ⊢ iprop(((ow c i ∗ semVal (kcell (c, 0)) 0 ∗ barPay c 0 ∗ barPay c 1 ∗ barPay c 2)
              -∗ wp frame (wpE (defs₀ (F := F)) 𝒱₀ (c : Thread nD τ) none) Set.univ (k ⟨⟩) Φ)
          -∗ wp frame (wpE (defs₀ (F := F)) 𝒱₀ (c : Thread nD τ) none) Set.univ (.op (.semWait barS a) k) Φ) := by
  subst ha
  unfold ctx ow
  iintro ⟨⟨#Hrec, #Hlev⟩, Hc, ⟨%W, HO⟩, Hat⟩ Hk
  iapply (Rounds.wp_wait_rest_token 𝒱₀ ER (sched A) (c : Thread nD τ) none (κ := K (c, 0))
      (wpE_semWait_eq 𝒱₀ (c : Thread nD τ) none Set.univ) (Set.mem_univ _) () (O := Ow c i) (W := W) (R := 0) (m := 0) (T := ∅)
      ((Nat.zero_add _).trans (expect_bar A c).symm)) $$ [Hc HO Hat]
  · isplitr; · iapply (inv_at A K (c, 0)); iexact Hrec
    isplitl [Hc]; · iexact Hc
    isplitl [HO]; · iexact HO
    isplitr; · iapply (mayWait c (csem 0) i h); iexact Hlev
    iexact Hat
  iintro ⟨HO, Hat, -, Hpay⟩
  ihave Hp := (Entails.of_eq (rest_bar A c)) $$ Hpay
  imod (Rounds.cell_close ER (sched A) (Set.mem_univ (K (c, 0))) (fun h => h) (R := 0 + 1) (duties_later A (kcell (c, 0)))) $$ [Hat] with Hz
  · isplitr; · iapply (inv_at A K (c, 0)); iexact Hrec
    iexact Hat
  iapply Hk
  isplitl [HO]; · iexists _; iexact HO
  isplitl [Hz]; · iexact Hz
  iexact Hp

/-- A wait for a transfer: what its cell hands over, and the cell is finished with. -/
theorem wait_step (k : Fin 19) (hk0 : k.val ≠ 0) {sm : DmaSem sig} (hsm : csem k = .dma sm) (i : ℕ)
    (h : ∀ i', i' < i → lvs (csem k) < lvs (csem (tj i').2)) (P : sProp 𝕄) (hP : (sched A).payload ((c : Thread nD τ), SemLoc.dma sm) 0 0 ⊢ P)
    {sp sp' : Space} {s s' : Shape} {e e' : EltTy} {src : Memref sig .tc sp' s' e'} {dst : Memref sig .tc sp s e}
    {hsrc : src.view.WordExact} {hdst : dst.view.WordExact} (hN : RefSig.tileCredit s e = amk k)
    {kk : PUnit → Prog (TpuEff nD τ sig (Elt F) Λ₀ .tc) α} :
    iprop(ctx A K ∗ cred (tallyAt (kcell (c, k)) () (amk k)) ∗ ow c i ∗ atPos ER (kcell (c, k)) 0 ∅ 0)
      ⊢ iprop(((ow c i ∗ semVal (kcell (c, k)) 0 ∗ P)
              -∗ wp frame (wpE (defs₀ (F := F)) 𝒱₀ (c : Thread nD τ) none) Set.univ (kk ⟨⟩) Φ)
          -∗ wp frame (wpE (defs₀ (F := F)) 𝒱₀ (c : Thread nD τ) none) Set.univ (.op (.waitDma2 sm src dst hsrc hdst) kk) Φ) := by
  have hkc : kcell (c, k) = ((c : Thread nD τ), SemLoc.dma sm) := congrArg (Prod.mk (c : Thread nD τ)) hsm
  have hN' : dst.view.dmaCredit = amk k := hN
  have hr := rest_dma A c k hk0
  have he := expect_dma A c k hk0
  unfold ctx ow
  iintro ⟨⟨#Hrec, #Hlev⟩, Hc, ⟨%W, HO⟩, Hat⟩ Hk
  ihave #Hinv := (inv_at A K (c, k)) $$ Hrec
  rw [hkc] at hr he
  rw [hkc]
  rw [← hN']
  iapply (Rounds.wp_wait_rest_token 𝒱₀ ER (sched A) (c : Thread nD τ) none (κ := K (c, k))
      (wpE_waitDma2_eq 𝒱₀ (c : Thread nD τ) none Set.univ) (Set.mem_univ _) () (O := Ow c i) (W := W) (R := 0) (m := 0) (T := ∅)
      (by rw [Nat.zero_add, he, hN'])) $$ [Hc HO Hat]
  · isplitr; · iexact Hinv
    isplitl [Hc]; · iexact Hc
    isplitl [HO]; · iexact HO
    isplitr; · rw [hsm] at h; iapply (mayWait c (.dma sm) i h); iexact Hlev
    iexact Hat
  iintro ⟨HO, Hat, -, Hpay⟩
  ihave Hp := (Entails.of_eq hr) $$ Hpay
  imod (Rounds.cell_close ER (sched A) (Set.mem_univ (K (c, k))) (fun h => h) (R := 0 + 1) (duties_later A ((c : Thread nD τ), SemLoc.dma sm))) $$ [Hat] with Hz
  · isplitr; · iexact Hinv
    iexact Hat
  iapply Hk
  isplitl [HO]; · iexists _; iexact HO
  isplitl [Hz]; · iexact Hz
  iapply hP
  iexact Hp

/-- A remote copy of a slot: one payment made, the source slot and the peer's landing slot given to the transfer. -/
theorem send_step (n p : Dev nD) (hn : n = p) (i : ℕ) (kS kR : Fin 19) (hkS : kS.val ≠ 0) (hkR : kR.val ≠ 0)
    {sS sR : DmaSem sig} (hsS : csem kS = .dma sS) (hsR : csem kR = .dma sR) (hi : tgt c i = kcell (p, kR)) (hi' : amk (tj i).2 = amk kR) (hSR : amk kS = amk kR)
    {s : Shape} {e : EltTy} {Ms Md : Memref sig .tc .vmem s e} {offs offd size : Fin s.rank → ℕ}
    {hs : ∀ a, offs a + size a ≤ s.size a} {hd : ∀ a, offd a + size a ≤ s.size a} {X Y : (⟨s.rank, size⟩ : Shape).Idx → Elt F e}
    {s' : Shape} {q q' : Shape.Squeezes (⟨s.rank, size⟩ : Shape) s'}
    {hsc : ((part Md offd size hd).squeeze s' q' : Memref sig (Dev.tc n : Thread nD τ).2.kind .vmem s' e).view.ref.isScScratch = false}
    {hsrc : ((part Ms offs size hs).squeeze s' q).view.WordExact} {hdst : ((part Md offd size hd).squeeze s' q').view.WordExact}
    {hsem : DmaTarget.Typed .vmem (.dma sR) (.remote (Dev.tc n : Thread nD τ) ((part Md offd size hd).squeeze s' q') (.dma sS) hsc)}
    {kk : PUnit → Prog (TpuEff nD τ sig (Elt F) Λ₀ .tc) α}
    (hN : RefSig.tileCredit s' e = amk kR)
    (hpay₁ : slot (U := UU) c Ms offs size hs X ⊢ (sched A).payload ((c : Thread nD τ), SemLoc.dma sS) 0 0)
    (hpay₂ : slot (U := UU) p Md offd size hd X ⊢ (sched A).payload ((p : Thread nD τ), SemLoc.dma sR) 0 0) :
    iprop(ctx A K ∗ slot (U := UU) c Ms offs size hs X ∗ slot (U := UU) p Md offd size hd Y ∗ ow c (i + 1)
        ∗ dutyTok ER (kcell (c, kS)) 0 0 ∗ dutyTok ER (kcell (p, kR)) 0 0)
      ⊢ iprop(((cred (tallyAt (kcell (c, kS)) () (amk kS)) ∗ ow c i)
            -∗ wp frame (wpE (defs₀ (F := F)) 𝒱₀ (c : Thread nD τ) none) Set.univ (kk ⟨⟩) Φ)
          -∗ wp frame (wpE (defs₀ (F := F)) 𝒱₀ (c : Thread nD τ) none) Set.univ
              (.op (.enqueueDma ((part Ms offs size hs).squeeze s' q)
                (.remote (Dev.tc n : Thread nD τ) ((part Md offd size hd).squeeze s' q') (.dma sS) hsc) (.dma sR) hsrc hdst hsem) kk) Φ) := by
  have hcS : kcell (c, kS) = ((c : Thread nD τ), SemLoc.dma sS) := congrArg (Prod.mk (c : Thread nD τ)) hsS
  have hcR : kcell (p, kR) = ((p : Thread nD τ), SemLoc.dma sR) := congrArg (Prod.mk (p : Thread nD τ)) hsR
  have d1 := duties_dma A c kS hkS
  have d2 := duties_dma A p kR hkR
  have a1 := amount_cell A c kS 0
  have a2 := amount_cell A p kR 0
  unfold ctx ow
  iintro ⟨⟨#Hrec, -⟩, Hs, Hd, ⟨%W, HO⟩, Ht1, Ht2⟩ Hk
  ihave #HI1 := (inv_at A K (c, kS)) $$ Hrec
  ihave #HI2 := (inv_at A K (p, kR)) $$ Hrec
  ihave #HR1 := (reached_at A K (c, kS)) $$ Hrec
  ihave #HR2 := (reached_at A K (p, kR)) $$ Hrec
  rw [hSR]
  rw [hcS] at d1 a1
  rw [hcR] at d2 a2 hi
  rw [hcS, hcR]
  iapply (slot_send 𝒱₀ ER (sched A) c n p hn (κ₁ := K (c, kS)) (κ₂ := K (p, kR)) (d₁ := 0) (d₂ := 0) (X := X) (Y := Y) (amk kR)
      (d1 ▸ Finset.mem_singleton_self _) (d2 ▸ Finset.mem_singleton_self _) hN (a1.trans hSR) a2 (Ow c i) (O₀ := Ow c (i + 1))
      (by rw [Ow, hi, hi']) hpay₁ hpay₂) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W
  iexact HO

end Steps

end Cert.MoE
-- ==== Proof.Base.lean ====
/-
# Buffers whole and by slots

The buffers the body holds whole, the three-slot buffers and the experts' buffer taken apart and put back together.
-/
module

public import proofs.«01_k».proof.Proof.Proto

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The tokens' window. -/
abbrev xM : Memref sig .tc .vmem S512x256 .f32 := Memref.whole cc0_stg0_0
/-- The router's window. -/
abbrev wM : Memref sig .tc .vmem S256x16 .f32 := Memref.whole cc0_stg1_0
/-- The routing indices' window. -/
abbrev iM : Memref sig .tc .vmem S512x2 .i32 := Memref.whole cc0_stg2_0
/-- The experts' window. -/
abbrev eM : Memref sig .tc .vmem S4x256x512 .f32 := Memref.whole cc0_stg3_0
/-- The result's window. -/
abbrev oM : Memref sig .tc .vmem S512x512 .f32 := Memref.whole cc0_stg4_0
/-- The narrowed tokens. -/
abbrev xbM : Memref sig .tc .vmem S512x256 .bf16 := Memref.whole cc0_scratch0
/-- The narrowed experts. -/
abbrev ebM : Memref sig .tc .vmem S256x2048 .bf16 := Memref.whole cc0_scratch1

/-- Device `c` holds a memref whole. -/
abbrev ownM (c : Dev nD) {s : Shape} {e : EltTy} (M : Memref sig .tc .vmem s e) (X : s.Idx → Elt F e) : sProp 𝕄 :=
  owns (Ix := Unit) (Name := ℕ) (U := UU) (Lvl := ℕ) (c : Thread nD τ) M fullShare X

/-- Expert columns from `o` on. -/
abbrev ebS (c : Dev nD) (o : ℕ) (h : ∀ a, (![0, o] : Fin 2 → ℕ) a + S256x512.size a ≤ S256x2048.size a) (X : Vec F S256x512 .bf16) : sProp 𝕄 :=
  slot (U := UU) (s := S256x2048) c ebM ![0, o] S256x512.size h X

theorem hz2 : (![0, 0] : Fin 2 → ℕ) = fun _ => 0 := funext fun a => by fin_cases a <;> rfl

/-! ## Scalars handed between parts -/

/-- The next device's number. -/
def w224 (c : Dev nD) : BitVec 32 := Scalar.select (Scalar.andi (Scalar.xori (Scalar.cmpi .slt (Scalar.remsi (Scalar.addi (w2 c) 1#32) w60) 0#32) (Scalar.cmpi .slt w60 0#32)) (Scalar.cmpi .ne (Scalar.remsi (Scalar.addi (w2 c) 1#32) w60) 0#32)) (Scalar.addi (Scalar.remsi (Scalar.addi (w2 c) 1#32) w60) w60) (Scalar.remsi (Scalar.addi (w2 c) 1#32) w60)
/-- The same number times one. -/
def w550 (c : Dev nD) : BitVec 32 := Scalar.muli (w224 c) 1#32
/-- The remainder at offset three. -/
def w749 (c : Dev nD) : BitVec 32 := Scalar.remsi (Scalar.addi (w2 c) 3#32) w60
/-- Whether the remainder wraps. -/
def w754 (c : Dev nD) : BitVec 1 := Scalar.andi (Scalar.xori (Scalar.cmpi .slt (w749 c) 0#32) (Scalar.cmpi .slt w60 0#32)) (Scalar.cmpi .ne (w749 c) 0#32)
/-- The wrapped remainder. -/
def w755 (c : Dev nD) : BitVec 32 := Scalar.addi (w749 c) w60
/-- The products of the tokens of slot zero. -/
def v561 (A : Args F) (c : Dev nD) : FVec F S320x2048 .f32 := k0_pay39 (XC A c 0) (E A c)

/-- Three pieces side by side. -/
theorem sep3 (f : Fin 3 → sProp 𝕄) : bigSep Finset.univ f = iprop(f 0 ∗ f 1 ∗ f 2) := by
  rw [show (Finset.univ : Finset (Fin 3)) = {0, 1, 2} from rfl, bigSep_insert (by decide), bigSep_insert (by decide), bigSep_singleton]
  rfl

/-- Four pieces side by side. -/
theorem sep4 (f : Fin 4 → sProp 𝕄) : bigSep Finset.univ f = iprop(f 0 ∗ f 1 ∗ f 2 ∗ f 3) := by
  rw [show (Finset.univ : Finset (Fin 4)) = {0, 1, 2, 3} from rfl, bigSep_insert (by decide), bigSep_insert (by decide), bigSep_insert (by decide), bigSep_singleton]
  rfl

/-! ## Rectangles of a three-slot buffer -/

section Rects

variable {a b : ℕ} (h : ∀ (t x : Fin 3), (![t.val, 0, 0] : Fin 3 → ℕ) x + (![1, a, b] : Fin 3 → ℕ) x ≤ (⟨3, ![3, a, b]⟩ : Shape).size x)

/-- Two slots share nothing. -/
theorem slot_disj (t t' : Fin 3) (hne : t ≠ t') :
    Disjoint (Rect.unit (s := ⟨3, ![3, a, b]⟩) ![t.val, 0, 0] ![1, a, b] (h t)).set (Rect.unit (s := ⟨3, ![3, a, b]⟩) ![t'.val, 0, 0] ![1, a, b] (h t')).set := by
  refine Rect.unit_disjoint 0 ?_
  have : t.val ≠ t'.val := fun e => hne (Fin.ext e)
  simp
  omega

/-- The three slots are the buffer. -/
theorem slot_cov : (Finset.univ : Finset (Fin 3)).biUnion
    (fun t => (Rect.unit (s := ⟨3, ![3, a, b]⟩) ![t.val, 0, 0] ![1, a, b] (h t)).set) = Finset.univ := by
  ext i
  simp only [Finset.mem_biUnion, Finset.mem_univ, true_and, iff_true]
  refine ⟨⟨(i 0).val, (i 0).isLt⟩, ?_⟩
  rw [Rect.mem_set_unit]
  intro x
  have hx := (i x).isLt
  fin_cases x
  · simp
  · simpa using hx
  · simpa using hx

variable (c : Dev nD) {e : EltTy} (M : Memref sig .tc .vmem (⟨3, ![3, a, b]⟩ : Shape) e)

/-- Slot `t` of a three-slot memref, at some contents. -/
abbrev slotX (t : Fin 3) : sProp 𝕄 :=
  iprop(∃ X, slot (U := UU) (Val := Elt F) c M ![t.val, 0, 0] ![1, a, b] (h t) X)

/-- A three-slot memref taken apart. -/
theorem three_split (X : (⟨3, ![3, a, b]⟩ : Shape).Idx → Elt F e) :
    ownM (F := F) c M X ⊢ iprop(slotX (F := F) h c M 0 ∗ slotX (F := F) h c M 1 ∗ slotX (F := F) h c M 2) := by
  refine BIBase.Entails.trans (slots_split (U := UU) c M (fun t => ![t.val, 0, 0]) ![1, a, b] h (slot_disj h) (slot_cov h) X) ?_
  rw [sep3]
  iintro ⟨H0, H1, H2⟩
  isplitl [H0]; · iexists _; iexact H0
  isplitl [H1]; · iexists _; iexact H1
  iexists _; iexact H2

/-- A three-slot memref put back together. -/
theorem three_join :
    iprop(slotX (F := F) h c M 0 ∗ slotX (F := F) h c M 1 ∗ slotX (F := F) h c M 2) ⊢ iprop(∃ X, ownM (F := F) c M X) := by
  iintro ⟨⟨%X0, H0⟩, ⟨%X1, H1⟩, ⟨%X2, H2⟩⟩
  iapply (slots_join_some (U := UU) (Val := Elt F) c M (fun t => ![t.val, 0, 0]) ![1, a, b] h (slot_disj h) (slot_cov h) ![X0, X1, X2])
  rw [sep3]
  isplitl [H0]; · iexact H0
  isplitl [H1]; · iexact H1
  iexact H2

end Rects

/-! ## The experts' buffer by columns -/

/-- The columns of expert `t` lie in the buffer. -/
theorem eb_in (t : Fin 4) : ∀ a, (![0, 512 * t.val] : Fin 2 → ℕ) a + S256x512.size a ≤ S256x2048.size a := by
  fin_cases t <;> decide

/-- Two experts' columns share nothing. -/
theorem eb_disj (t t' : Fin 4) (hne : t ≠ t') :
    Disjoint (Rect.unit (s := S256x2048) ![0, 512 * t.val] S256x512.size (eb_in t)).set (Rect.unit (s := S256x2048) ![0, 512 * t'.val] S256x512.size (eb_in t')).set := by
  refine Rect.unit_disjoint 1 ?_
  have : t.val ≠ t'.val := fun e => hne (Fin.ext e)
  simp
  omega

/-- The experts' columns are the buffer. -/
theorem eb_cov : (Finset.univ : Finset (Fin 4)).biUnion
    (fun t => (Rect.unit (s := S256x2048) ![0, 512 * t.val] S256x512.size (eb_in t)).set) = Finset.univ := by
  ext i
  simp only [Finset.mem_biUnion, Finset.mem_univ, true_and, iff_true]
  have h1 : (i 1).val < 2048 := (i 1).isLt
  refine ⟨⟨(i 1).val / 512, by omega⟩, ?_⟩
  rw [Rect.mem_set_unit]
  intro x
  have hx := (i x).isLt
  fin_cases x
  · simpa using hx
  · simp
    omega

/-- The experts' buffer taken apart. -/
theorem eb_split (c : Dev nD) (X : Vec F S256x2048 .bf16) :
    ownM (F := F) c ebM X ⊢ iprop((∃ X, ebS (F := F) c 0 inb_S256x2048_S256x512_0_0 X) ∗ (∃ X, ebS (F := F) c 512 inb_S256x2048_S256x512_0_512 X)
      ∗ (∃ X, ebS (F := F) c 1024 inb_S256x2048_S256x512_0_1024 X) ∗ (∃ X, ebS (F := F) c 1536 inb_S256x2048_S256x512_0_1536 X)) := by
  refine BIBase.Entails.trans (slots_split (U := UU) (s := S256x2048) c ebM (fun t : Fin 4 => ![0, 512 * t.val]) S256x512.size eb_in eb_disj eb_cov X) ?_
  rw [sep4]
  iintro ⟨H0, H1, H2, H3⟩
  isplitl [H0]; · iexists _; iexact H0
  isplitl [H1]; · iexists _; iexact H1
  isplitl [H2]; · iexists _; iexact H2
  iexists _; iexact H3

/-- Every element of the experts' buffer, by expert. -/
theorem E_emb (A : Args F) (c : Dev nD) (t : Fin 4) (j : S256x512.Idx) :
    E A c ((Rect.unit (s := S256x2048) ![0, 512 * t.val] S256x512.size (eb_in t)).emb j) = EW A c t j := by
  have h0 : (j 0).val < 256 := (j 0).isLt
  have h1 : (j 1).val < 512 := (j 1).isLt
  have e0 : ((Rect.unit (s := S256x2048) ![0, 512 * t.val] S256x512.size (eb_in t)).emb j 0).val = (j 0).val := by
    show 0 + 1 * (j 0).val = (j 0).val
    omega
  have e1 : ((Rect.unit (s := S256x2048) ![0, 512 * t.val] S256x512.size (eb_in t)).emb j 1).val = 512 * t.val + (j 1).val := by
    show 512 * t.val + 1 * (j 1).val = _
    omega
  have k : ∀ (t' : Fin 4) (j' : S256x512.Idx), t' = t → j' = j → EW A c t' j' = EW A c t j := by
    rintro _ _ rfl rfl; rfl
  unfold E
  refine k _ _ (Fin.ext ?_) (funext fun a => ?_)
  · show _ / 512 = _
    rw [e1]; omega
  · match a with
    | 0 => exact Fin.ext e0
    | 1 => refine Fin.ext ?_; show _ % 512 = _; rw [e1]; omega

/-- The experts' buffer put together. -/
theorem eb_join (A : Args F) (c : Dev nD) :
    iprop(ebS (F := F) c 0 inb_S256x2048_S256x512_0_0 (EW A c 0) ∗ ebS (F := F) c 512 inb_S256x2048_S256x512_0_512 (EW A c 1)
      ∗ ebS (F := F) c 1024 inb_S256x2048_S256x512_0_1024 (EW A c 2) ∗ ebS (F := F) c 1536 inb_S256x2048_S256x512_0_1536 (EW A c 3)) ⊢ ownM (F := F) c ebM (E A c) := by
  refine BIBase.Entails.trans ?_ (slots_join (U := UU) (s := S256x2048) c ebM (fun t : Fin 4 => ![0, 512 * t.val]) S256x512.size eb_in eb_disj eb_cov (fun t => EW A c t) (E A c) (fun t j => E_emb A c t j))
  rw [sep4]
  iintro ⟨H0, H1, H2, H3⟩
  isplitl [H0]; · iexact H0
  isplitl [H1]; · iexact H1
  isplitl [H2]; · iexact H2
  iexact H3

end Cert.MoE
-- ==== Proof.BodyA.lean ====
/-
# The parts of the kernel body

One fact for each part of the body, in program order.
-/
module

public import proofs.«01_k».proof.Proof.Base

@[expose] public section

set_option maxRecDepth 65536

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Args F) (K : Dev nD × Fin 19 → ℕ)

/-- Part 1 of the body: what it uses and what it leaves. -/
theorem part1 (c : Dev nD) {Q : _ → sProp (MT nD τ sig Unit (Elt F) ℕ UU ℕ)} :
    iprop(ctx A K ∗ ow (F := F) c 12 ∗ dutyTok ER (kcell (peer c 1, 0)) 0 (1 : Fin 3) ∗ barPay (F := F) (peer c 1) 1 ∗ dutyTok ER (kcell (peer c 0, 0)) 0 (2 : Fin 3) ∗ barPay (F := F) (peer c 0) 2)
      ⊢ iprop(((ow (F := F) c 10) -∗ Q ⟨c, w2 c, SemArray.scalar (sig.barrier 0 rfl), Scalar.addi (w2 c) 3#32, 4#32, Scalar.cmpi .eq 4#32 0#32⟩)
        -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 ) Q) := by
  rw [k0_part1_eq_skeleton]; unfold k0_part1_skel
  simp only [semSignalWord, semWaitWord, Prog.lift, Prog.bind_op, Prog.bind_ret, Prog.pure_eq_ret, wp_deviceId]
  iintro ⟨#Hctx, HO, Htb1, Hbp1, Htb0, Hbp0⟩ Hk
  iapply (signal_step A K c _ (peer c 1) (dev1_eq c) 11 1 _ rfl rfl rfl) $$ [HO Htb1 Hbp1]
  · isplitr; · iexact Hctx
    isplitl [HO]; · iexact HO
    isplitl [Htb1]; · iexact Htb1
    iexact Hbp1
  iintro HO
  iapply (signal_step A K c _ (peer c 0) (dev2_eq c) 10 2 _ rfl rfl rfl) $$ [HO Htb0 Hbp0]
  · isplitr; · iexact Hctx
    isplitl [HO]; · iexact HO
    isplitl [Htb0]; · iexact Htb0
    iexact Hbp0
  iintro HO
  rw [wp_ret]; imodintro
  show Entails' _ (Q ⟨c, w2 c, SemArray.scalar (sig.barrier 0 rfl), Scalar.addi (w2 c) 3#32, 4#32, Scalar.cmpi .eq 4#32 0#32⟩)
  iapply Hk
  iexact HO

/-- Part 2 of the body: what it uses and what it leaves. -/
theorem part2 (c : Dev nD) {Q : _ → sProp (MT nD τ sig Unit (Elt F) ℕ UU ℕ)} :
    iprop(ctx A K ∗ ow (F := F) c 10 ∗ dutyTok ER (kcell (peer c 2, 0)) 0 (0 : Fin 3) ∗ barPay (F := F) (peer c 2) 0 ∗ cred (tallyAt (kcell (c, 0)) () 3) ∗ atPos ER (kcell (c, 0)) 0 ∅ 0 ∗ ownM (F := F) c xM (A.x c) ∗ (∃ X, ownM (F := F) c xbM (X)) ∗ ownM (F := F) c iM (A.i c))
      ⊢ iprop(((ow (F := F) c 9 ∗ semVal (kcell (c, 0)) 0 ∗ (∃ X, xcS (F := F) (peer c 0) 2 inb_S3x320x256_S1x320x256_2_0_0 (X)) ∗ (∃ X, gcS (F := F) (peer c 0) 2 inb_S3x4x320_S1x4x320_2_0_0 (X)) ∗ (∃ X, pcS (F := F) (peer c 0) 2 inb_S3x320x512_S1x320x512_2_0_0 (X)) ∗ (∃ X, xcS (F := F) (peer c 1) 1 inb_S3x320x256_S1x320x256_1_0_0 (X)) ∗ (∃ X, gcS (F := F) (peer c 1) 1 inb_S3x4x320_S1x4x320_1_0_0 (X)) ∗ (∃ X, pcS (F := F) (peer c 1) 1 inb_S3x320x512_S1x320x512_1_0_0 (X)) ∗ (∃ X, xcS (F := F) (peer c 2) 0 inb_S3x320x256_S1x320x256_0_0_0 (X)) ∗ (∃ X, gcS (F := F) (peer c 2) 0 inb_S3x4x320_S1x4x320_0_0_0 (X)) ∗ (∃ X, pcS (F := F) (peer c 2) 0 inb_S3x320x512_S1x320x512_0_0_0 (X)) ∗ ownM (F := F) c xM (A.x c) ∗ ownM (F := F) c xbM (xb A c) ∗ ownM (F := F) c iM (A.i c)) -∗ Q ⟨tri (F := F), e0 A c, e1 A c, w60, w61 c, (Scalar.cmpi .ne (w61 c) 0#32), (Scalar.cmpi .slt (w61 c) 0#32), (Scalar.cmpi .slt w60 0#32)⟩)
        -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (w2 c) (SemArray.scalar (sig.barrier 0 rfl)) (Scalar.addi (w2 c) 3#32) 4#32 (Scalar.cmpi .eq 4#32 0#32)) Q) := by
  rw [k0_part2_eq_skeleton]; unfold k0_part2_skel
  simp only [semSignalWord, semWaitWord, Prog.lift, Prog.bind_op, Prog.bind_ret, Prog.pure_eq_ret, wp_deviceId]
  iintro ⟨#Hctx, HO, Htb2, Hbp2, Hcr0, Hat0, Hx, ⟨%XHxb, Hxb⟩, Hi⟩ Hk
  iapply (signal_step A K c _ (peer c 2) (dev3_eq c) 9 0 _ rfl rfl rfl) $$ [HO Htb2 Hbp2]
  · isplitr; · iexact Hctx
    isplitl [HO]; · iexact HO
    isplitl [Htb2]; · iexact Htb2
    iexact Hbp2
  iintro HO
  iapply (barrier_step A K c 9 (by decide) _ rfl) $$ [Hcr0 HO Hat0]
  · isplitr; · iexact Hctx
    isplitl [Hcr0]; · iexact Hcr0
    isplitl [HO]; · iexact HO
    iexact Hat0
  iintro ⟨HO, Hz0, Hq0, Hq1, Hq2⟩
  ihave Hq0 := (show barPay (F := F) c 0 ⊢ iprop((∃ X, xcS (F := F) (peer c 0) 2 inb_S3x320x256_S1x320x256_2_0_0 (X)) ∗ (∃ X, gcS (F := F) (peer c 0) 2 inb_S3x4x320_S1x4x320_2_0_0 (X)) ∗ (∃ X, pcS (F := F) (peer c 0) 2 inb_S3x320x512_S1x320x512_2_0_0 (X))) from BI.Entails.refl _) $$ Hq0
  icases Hq0 with ⟨Hyxc0, Hygc0, Hypc0⟩
  ihave Hq1 := (show barPay (F := F) c 1 ⊢ iprop((∃ X, xcS (F := F) (peer c 1) 1 inb_S3x320x256_S1x320x256_1_0_0 (X)) ∗ (∃ X, gcS (F := F) (peer c 1) 1 inb_S3x4x320_S1x4x320_1_0_0 (X)) ∗ (∃ X, pcS (F := F) (peer c 1) 1 inb_S3x320x512_S1x320x512_1_0_0 (X))) from BI.Entails.refl _) $$ Hq1
  icases Hq1 with ⟨Hyxc1, Hygc1, Hypc1⟩
  ihave Hq2 := (show barPay (F := F) c 2 ⊢ iprop((∃ X, xcS (F := F) (peer c 2) 0 inb_S3x320x256_S1x320x256_0_0_0 (X)) ∗ (∃ X, gcS (F := F) (peer c 2) 0 inb_S3x4x320_S1x4x320_0_0_0 (X)) ∗ (∃ X, pcS (F := F) (peer c 2) 0 inb_S3x320x512_S1x320x512_0_0_0 (X))) from BI.Entails.refl _) $$ Hq2
  icases Hq2 with ⟨Hyxc2, Hygc2, Hypc2⟩
  iapply (own_load_all 𝒱₀ c hz2) $$ Hx; iintro Hx
  iapply (own_load_all 𝒱₀ c hz2) $$ Hxb; iintro Hxb
  iapply (own_store_all 𝒱₀ c hz2) $$ Hxb; iintro Hxb
  iapply (own_load 𝒱₀ c) $$ Hi; iintro Hi
  iapply (own_load 𝒱₀ c) $$ Hi; iintro Hi
  rw [wp_ret]; imodintro
  show Entails' _ (Q ⟨tri (F := F), e0 A c, e1 A c, w60, w61 c, (Scalar.cmpi .ne (w61 c) 0#32), (Scalar.cmpi .slt (w61 c) 0#32), (Scalar.cmpi .slt w60 0#32)⟩)
  iapply Hk
  isplitl [HO]; · iexact HO
  isplitl [Hz0]; · iexact Hz0
  isplitl [Hyxc0]; · iexact Hyxc0
  isplitl [Hygc0]; · iexact Hygc0
  isplitl [Hypc0]; · iexact Hypc0
  isplitl [Hyxc1]; · iexact Hyxc1
  isplitl [Hygc1]; · iexact Hygc1
  isplitl [Hypc1]; · iexact Hypc1
  isplitl [Hyxc2]; · iexact Hyxc2
  isplitl [Hygc2]; · iexact Hygc2
  isplitl [Hypc2]; · iexact Hypc2
  isplitl [Hx]; · iexact Hx
  isplitl [Hxb]; · iexact Hxb
  iexact Hi

/-- Part 3 of the body: what it uses and what it leaves. -/
theorem part3 (c : Dev nD) {Q : _ → sProp (MT nD τ sig Unit (Elt F) ℕ UU ℕ)} :
    iprop(ctx A K)
      ⊢ iprop(((emp) -∗ Q ⟨sel2 A c, sel1 A c⟩)
        -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (e0 A c) (e1 A c) w60 (w61 c) (Scalar.cmpi .ne (w61 c) 0#32) (Scalar.cmpi .slt (w61 c) 0#32) (Scalar.cmpi .slt w60 0#32)) Q) := by
  rw [k0_part3_eq_skeleton]; unfold k0_part3_skel
  simp only [semSignalWord, semWaitWord, Prog.lift, Prog.bind_op, Prog.bind_ret, Prog.pure_eq_ret, wp_deviceId]
  iintro #Hctx Hk
  rw [wp_ret]; imodintro
  show Entails' _ (Q ⟨sel2 A c, sel1 A c⟩)
  iapply Hk
  iempintro

/-- Part 4 of the body: what it uses and what it leaves. -/
theorem part4 (c : Dev nD) {Q : _ → sProp (MT nD τ sig Unit (Elt F) ℕ UU ℕ)} :
    iprop(ctx A K)
      ⊢ iprop(((emp) -∗ Q ⟨sel3 A c, rk A c, S2 A c, T2 A c⟩)
        -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (tri (F := F)) (e0 A c) (e1 A c) (sel2 A c) (sel1 A c)) Q) := by
  rw [k0_part4_eq_skeleton]; unfold k0_part4_skel
  simp only [semSignalWord, semWaitWord, Prog.lift, Prog.bind_op, Prog.bind_ret, Prog.pure_eq_ret, wp_deviceId]
  iintro #Hctx Hk
  rw [wp_ret]; imodintro
  show Entails' _ (Q ⟨sel3 A c, rk A c, S2 A c, T2 A c⟩)
  iapply Hk
  iempintro

/-- Part 5 of the body: what it uses and what it leaves. -/
theorem part5 (c : Dev nD) {Q : _ → sProp (MT nD τ sig Unit (Elt F) ℕ UU ℕ)} :
    iprop(ctx A K ∗ (∃ X, stS (F := F) c 1 inb_S3x512x320_S1x512x320_1_0_0 (X)) ∗ ownM (F := F) c xbM (xb A c) ∗ (∃ X, xsS (F := F) c 1 inb_S3x320x256_S1x320x256_1_0_0 (X)) ∗ (∃ X, xcS (F := F) (peer c 1) 1 inb_S3x320x256_S1x320x256_1_0_0 (X)) ∗ ow (F := F) c 9 ∗ dutyTok ER (kcell (c, 2)) 0 (0 : Fin 3) ∗ dutyTok ER (kcell (peer c 1, 5)) 0 (0 : Fin 3))
      ⊢ iprop(((stS (F := F) c 1 inb_S3x512x320_S1x512x320_1_0_0 (ST A c 1) ∗ ownM (F := F) c xbM (xb A c) ∗ ow (F := F) c 8 ∗ cred (tallyAt (kcell (c, 2)) () (amk 2))) -∗ Q (rk1 A c))
        -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (w2 c) (rk A c) (S2 A c) (T2 A c)) Q) := by
  rw [k0_part5_eq_skeleton]; unfold k0_part5_skel
  simp only [semSignalWord, semWaitWord, Prog.lift, Prog.bind_op, Prog.bind_ret, Prog.pure_eq_ret, wp_deviceId]
  iintro ⟨#Hctx, ⟨%XHst1, Hst1⟩, Hxb, ⟨%XHxs1, Hxs1⟩, ⟨%XHyxc1, Hyxc1⟩, HO, Hts2, Htr5⟩ Hk
  iapply (slot_load 𝒱₀ c) $$ Hst1; iintro Hst1
  iapply (slot_store 𝒱₀ c) $$ Hst1; iintro Hst1
  iapply (own_load_all 𝒱₀ c hz2) $$ Hxb; iintro Hxb
  iapply (slot_load 𝒱₀ c) $$ Hxs1; iintro Hxs1
  iapply (slot_store 𝒱₀ c) $$ Hxs1; iintro Hxs1
  iapply (send_step A K c _ (peer c 1) (dev4_eq c) 8 2 5 (by decide) (by decide) (sS := ⟨6, by decide⟩) (sR := ⟨9, by decide⟩) rfl rfl rfl rfl rfl (Ms := xsM) (Md := xcM) (offs := ![1, 0, 0]) (offd := ![1, 0, 0]) (size := S1x320x256.size) (X := XS A c 1) (s' := S320x256) rfl (BI.Entails.refl _) (xc_land1 A c)) $$ [Hxs1 Hyxc1 HO Hts2 Htr5]
  · isplitr; · iexact Hctx
    isplitl [Hxs1]; · iexact Hxs1
    isplitl [Hyxc1]; · iexact Hyxc1
    isplitl [HO]; · iexact HO
    isplitl [Hts2]; · iexact Hts2
    iexact Htr5
  iintro ⟨Hcr2, HO⟩
  rw [wp_ret]; imodintro
  show Entails' _ (Q (rk1 A c))
  iapply Hk
  isplitl [Hst1]; · iexact Hst1
  isplitl [Hxb]; · iexact Hxb
  isplitl [HO]; · iexact HO
  iexact Hcr2

/-- Part 6 of the body: what it uses and what it leaves. -/
theorem part6 (c : Dev nD) {Q : _ → sProp (MT nD τ sig Unit (Elt F) ℕ UU ℕ)} :
    iprop(ctx A K ∗ (∃ X, stS (F := F) c 0 inb_S3x512x320_S1x512x320_0_0_0 (X)) ∗ ownM (F := F) c xbM (xb A c) ∗ (∃ X, xsS (F := F) c 0 inb_S3x320x256_S1x320x256_0_0_0 (X)))
      ⊢ iprop(((stS (F := F) c 0 inb_S3x512x320_S1x512x320_0_0_0 (ST A c 0) ∗ ownM (F := F) c xbM (xb A c) ∗ xsS (F := F) c 0 inb_S3x320x256_S1x320x256_0_0_0 (XS A c 0)) -∗ Q ⟨S1m A c, w224 c⟩)
        -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (sel1 A c) (rk1 A c)) Q) := by
  rw [k0_part6_eq_skeleton]; unfold k0_part6_skel
  simp only [semSignalWord, semWaitWord, Prog.lift, Prog.bind_op, Prog.bind_ret, Prog.pure_eq_ret, wp_deviceId]
  iintro ⟨#Hctx, ⟨%XHst0, Hst0⟩, Hxb, ⟨%XHxs0, Hxs0⟩⟩ Hk
  iapply (slot_load 𝒱₀ c) $$ Hst0; iintro Hst0
  iapply (slot_store 𝒱₀ c) $$ Hst0; iintro Hst0
  iapply (own_load_all 𝒱₀ c hz2) $$ Hxb; iintro Hxb
  iapply (slot_load 𝒱₀ c) $$ Hxs0; iintro Hxs0
  iapply (slot_store 𝒱₀ c) $$ Hxs0; iintro Hxs0
  rw [wp_ret]; imodintro
  show Entails' _ (Q ⟨S1m A c, w224 c⟩)
  iapply Hk
  isplitl [Hst0]; · iexact Hst0
  isplitl [Hxb]; · iexact Hxb
  iexact Hxs0

/-- Part 7 of the body: what it uses and what it leaves. -/
theorem part7 (c : Dev nD) {Q : _ → sProp (MT nD τ sig Unit (Elt F) ℕ UU ℕ)} :
    iprop(ctx A K ∗ xsS (F := F) c 0 inb_S3x320x256_S1x320x256_0_0_0 (XS A c 0) ∗ (∃ X, xcS (F := F) (peer c 0) 2 inb_S3x320x256_S1x320x256_2_0_0 (X)) ∗ ow (F := F) c 8 ∗ dutyTok ER (kcell (c, 1)) 0 (0 : Fin 3) ∗ dutyTok ER (kcell (peer c 0, 6)) 0 (0 : Fin 3) ∗ (∃ X, stS (F := F) c 2 inb_S3x512x320_S1x512x320_2_0_0 (X)) ∗ ownM (F := F) c xbM (xb A c) ∗ (∃ X, xsS (F := F) c 2 inb_S3x320x256_S1x320x256_2_0_0 (X)))
      ⊢ iprop(((ow (F := F) c 7 ∗ cred (tallyAt (kcell (c, 1)) () (amk 1)) ∗ stS (F := F) c 2 inb_S3x512x320_S1x512x320_2_0_0 (ST A c 2) ∗ ownM (F := F) c xbM (xb A c) ∗ xsS (F := F) c 2 inb_S3x320x256_S1x320x256_2_0_0 (XS A c 2)) -∗ Q ⟨S3m A c, Scalar.addi (w2 c) 3#32⟩)
        -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (w2 c) (sel3 A c) (rk A c) (w224 c)) Q) := by
  rw [k0_part7_eq_skeleton]; unfold k0_part7_skel
  simp only [semSignalWord, semWaitWord, Prog.lift, Prog.bind_op, Prog.bind_ret, Prog.pure_eq_ret, wp_deviceId]
  iintro ⟨#Hctx, Hxs0, ⟨%XHyxc0, Hyxc0⟩, HO, Hts1, Htr6, ⟨%XHst2, Hst2⟩, Hxb, ⟨%XHxs2, Hxs2⟩⟩ Hk
  iapply (send_step A K c _ (peer c 0) (dev5_eq c) 7 1 6 (by decide) (by decide) (sS := ⟨5, by decide⟩) (sR := ⟨10, by decide⟩) rfl rfl rfl rfl rfl (Ms := xsM) (Md := xcM) (offs := ![0, 0, 0]) (offd := ![2, 0, 0]) (size := S1x320x256.size) (X := XS A c 0) (s' := S320x256) rfl (BI.Entails.refl _) (xc_land0 A c)) $$ [Hxs0 Hyxc0 HO Hts1 Htr6]
  · isplitr; · iexact Hctx
    isplitl [Hxs0]; · iexact Hxs0
    isplitl [Hyxc0]; · iexact Hyxc0
    isplitl [HO]; · iexact HO
    isplitl [Hts1]; · iexact Hts1
    iexact Htr6
  iintro ⟨Hcr1, HO⟩
  iapply (slot_load 𝒱₀ c) $$ Hst2; iintro Hst2
  iapply (slot_store 𝒱₀ c) $$ Hst2; iintro Hst2
  iapply (own_load_all 𝒱₀ c hz2) $$ Hxb; iintro Hxb
  iapply (slot_load 𝒱₀ c) $$ Hxs2; iintro Hxs2
  iapply (slot_store 𝒱₀ c) $$ Hxs2; iintro Hxs2
  rw [wp_ret]; imodintro
  show Entails' _ (Q ⟨S3m A c, Scalar.addi (w2 c) 3#32⟩)
  iapply Hk
  isplitl [HO]; · iexact HO
  isplitl [Hcr1]; · iexact Hcr1
  isplitl [Hst2]; · iexact Hst2
  isplitl [Hxb]; · iexact Hxb
  iexact Hxs2

/-- Part 8 of the body: what it uses and what it leaves. -/
theorem part8 (c : Dev nD) {Q : _ → sProp (MT nD τ sig Unit (Elt F) ℕ UU ℕ)} :
    iprop(ctx A K ∗ xsS (F := F) c 2 inb_S3x320x256_S1x320x256_2_0_0 (XS A c 2) ∗ (∃ X, xcS (F := F) (peer c 2) 0 inb_S3x320x256_S1x320x256_0_0_0 (X)) ∗ ow (F := F) c 7 ∗ dutyTok ER (kcell (c, 3)) 0 (0 : Fin 3) ∗ dutyTok ER (kcell (peer c 2, 4)) 0 (0 : Fin 3) ∗ ownM (F := F) c xM (A.x c) ∗ ownM (F := F) c wM (A.w c))
      ⊢ iprop(((ow (F := F) c 6 ∗ cred (tallyAt (kcell (c, 3)) () (amk 3)) ∗ ownM (F := F) c xM (A.x c) ∗ ownM (F := F) c wM (A.w c)) -∗ Q ⟨pr A c, it16, e0b A c⟩)
        -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (e0 A c) (Scalar.addi (w2 c) 3#32)) Q) := by
  rw [k0_part8_eq_skeleton]; unfold k0_part8_skel
  simp only [semSignalWord, semWaitWord, Prog.lift, Prog.bind_op, Prog.bind_ret, Prog.pure_eq_ret, wp_deviceId]
  iintro ⟨#Hctx, Hxs2, ⟨%XHyxc2, Hyxc2⟩, HO, Hts3, Htr4, Hx, Hw⟩ Hk
  iapply (send_step A K c _ (peer c 2) (dev6_eq c) 6 3 4 (by decide) (by decide) (sS := ⟨7, by decide⟩) (sR := ⟨8, by decide⟩) rfl rfl rfl rfl rfl (Ms := xsM) (Md := xcM) (offs := ![2, 0, 0]) (offd := ![0, 0, 0]) (size := S1x320x256.size) (X := XS A c 2) (s' := S320x256) rfl (BI.Entails.refl _) (xc_land2 A c)) $$ [Hxs2 Hyxc2 HO Hts3 Htr4]
  · isplitr; · iexact Hctx
    isplitl [Hxs2]; · iexact Hxs2
    isplitl [Hyxc2]; · iexact Hyxc2
    isplitl [HO]; · iexact HO
    isplitl [Hts3]; · iexact Hts3
    iexact Htr4
  iintro ⟨Hcr3, HO⟩
  iapply (own_load_all 𝒱₀ c hz2) $$ Hx; iintro Hx
  iapply (own_load_all 𝒱₀ c hz2) $$ Hw; iintro Hw
  rw [wp_ret]; imodintro
  show Entails' _ (Q ⟨pr A c, it16, e0b A c⟩)
  iapply Hk
  isplitl [HO]; · iexact HO
  isplitl [Hcr3]; · iexact Hcr3
  isplitl [Hx]; · iexact Hx
  iexact Hw

/-- Part 9 of the body: what it uses and what it leaves. -/
theorem part9 (c : Dev nD) {Q : _ → sProp (MT nD τ sig Unit (Elt F) ℕ UU ℕ)} :
    iprop(ctx A K)
      ⊢ iprop(((emp) -∗ Q ⟨wt A c, w319 c, (k0_pay23 (w2 c) (e1 A c) (pr A c) it16 (e0b A c)), (k0_pay24 (w2 c) (e1 A c) (pr A c) it16 (e0b A c)), (k0_pay25 (w2 c) (e1 A c) (pr A c) it16 (e0b A c))⟩)
        -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (e1 A c) (pr A c) it16 (e0b A c)) Q) := by
  rw [k0_part9_eq_skeleton]; unfold k0_part9_skel
  simp only [semSignalWord, semWaitWord, Prog.lift, Prog.bind_op, Prog.bind_ret, Prog.pure_eq_ret, wp_deviceId]
  iintro #Hctx Hk
  rw [wp_ret]; imodintro
  show Entails' _ (Q ⟨wt A c, w319 c, (k0_pay23 (w2 c) (e1 A c) (pr A c) it16 (e0b A c)), (k0_pay24 (w2 c) (e1 A c) (pr A c) it16 (e0b A c)), (k0_pay25 (w2 c) (e1 A c) (pr A c) it16 (e0b A c))⟩)
  iapply Hk
  iempintro

/-- Part 10 of the body: what it uses and what it leaves. -/
theorem part10 (c : Dev nD) {Q : _ → sProp (MT nD τ sig Unit (Elt F) ℕ UU ℕ)} :
    iprop(ctx A K ∗ (∃ X, gsS (F := F) c 1 inb_S3x4x320_S1x4x320_1_0_0 (X)))
      ⊢ iprop(((gsS (F := F) c 1 inb_S3x4x320_S1x4x320_1_0_0 (GS A c 1)) -∗ Q ⟨⟩)
        -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (S2 A c) it16 (wt A c) (w319 c) (k0_pay23 (w2 c) (e1 A c) (pr A c) it16 (e0b A c)) (k0_pay24 (w2 c) (e1 A c) (pr A c) it16 (e0b A c)) (k0_pay25 (w2 c) (e1 A c) (pr A c) it16 (e0b A c))) Q) := by
  rw [k0_part10_eq_skeleton]; unfold k0_part10_skel
  simp only [semSignalWord, semWaitWord, Prog.lift, Prog.bind_op, Prog.bind_ret, Prog.pure_eq_ret, wp_deviceId]
  iintro ⟨#Hctx, ⟨%XHgs1, Hgs1⟩⟩ Hk
  iapply (slot_load 𝒱₀ c) $$ Hgs1; iintro Hgs1
  iapply (slot_store 𝒱₀ c) $$ Hgs1; iintro Hgs1
  rw [wp_ret]; imodintro
  iapply Hk
  iexact Hgs1

/-- Part 11 of the body: what it uses and what it leaves. -/
theorem part11 (c : Dev nD) {Q : _ → sProp (MT nD τ sig Unit (Elt F) ℕ UU ℕ)} :
    iprop(ctx A K ∗ gsS (F := F) c 1 inb_S3x4x320_S1x4x320_1_0_0 (GS A c 1) ∗ (∃ X, gcS (F := F) (peer c 1) 1 inb_S3x4x320_S1x4x320_1_0_0 (X)) ∗ ow (F := F) c 6 ∗ dutyTok ER (kcell (c, 8)) 0 (0 : Fin 3) ∗ dutyTok ER (kcell (peer c 1, 11)) 0 (0 : Fin 3))
      ⊢ iprop(((ow (F := F) c 5 ∗ cred (tallyAt (kcell (c, 8)) () (amk 8))) -∗ Q ⟨(k0_pay27 (w2 c) it16 (wt A c)), (k0_pay28 (w2 c) it16 (wt A c)), (k0_pay29 (w2 c) it16 (wt A c)), (k0_pay30 (w2 c) it16), (k0_pay31 (F := F))⟩)
        -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (w2 c) it16 (wt A c)) Q) := by
  rw [k0_part11_eq_skeleton]; unfold k0_part11_skel
  simp only [semSignalWord, semWaitWord, Prog.lift, Prog.bind_op, Prog.bind_ret, Prog.pure_eq_ret, wp_deviceId]
  iintro ⟨#Hctx, Hgs1, ⟨%XHygc1, Hygc1⟩, HO, Hts8, Htr11⟩ Hk
  iapply (send_step A K c _ (peer c 1) (dev7_eq c) 5 8 11 (by decide) (by decide) (sS := ⟨12, by decide⟩) (sR := ⟨15, by decide⟩) rfl rfl rfl rfl rfl (Ms := gsM) (Md := gcM) (offs := ![1, 0, 0]) (offd := ![1, 0, 0]) (size := S1x4x320.size) (X := GS A c 1) (s' := S4x320) rfl (BI.Entails.refl _) (gc_land1 A c)) $$ [Hgs1 Hygc1 HO Hts8 Htr11]
  · isplitr; · iexact Hctx
    isplitl [Hgs1]; · iexact Hgs1
    isplitl [Hygc1]; · iexact Hygc1
    isplitl [HO]; · iexact HO
    isplitl [Hts8]; · iexact Hts8
    iexact Htr11
  iintro ⟨Hcr8, HO⟩
  rw [wp_ret]; imodintro
  show Entails' _ (Q ⟨(k0_pay27 (w2 c) it16 (wt A c)), (k0_pay28 (w2 c) it16 (wt A c)), (k0_pay29 (w2 c) it16 (wt A c)), (k0_pay30 (w2 c) it16), (k0_pay31 (F := F))⟩)
  iapply Hk
  isplitl [HO]; · iexact HO
  iexact Hcr8

/-- Part 12 of the body: what it uses and what it leaves. -/
theorem part12 (c : Dev nD) {Q : _ → sProp (MT nD τ sig Unit (Elt F) ℕ UU ℕ)} :
    iprop(ctx A K ∗ (∃ X, gsS (F := F) c 0 inb_S3x4x320_S1x4x320_0_0_0 (X)) ∗ (∃ X, gcS (F := F) (peer c 0) 2 inb_S3x4x320_S1x4x320_2_0_0 (X)) ∗ ow (F := F) c 5 ∗ dutyTok ER (kcell (c, 7)) 0 (0 : Fin 3) ∗ dutyTok ER (kcell (peer c 0, 12)) 0 (0 : Fin 3))
      ⊢ iprop(((ow (F := F) c 4 ∗ cred (tallyAt (kcell (c, 7)) () (amk 7))) -∗ Q ⟨Scalar.addi (w2 c) 3#32, 4#32, 0#32⟩)
        -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (w2 c) (S1m A c) (wt A c) (k0_pay27 (w2 c) it16 (wt A c)) (k0_pay28 (w2 c) it16 (wt A c)) (k0_pay29 (w2 c) it16 (wt A c)) (k0_pay30 (w2 c) it16) (k0_pay31 (F := F))) Q) := by
  rw [k0_part12_eq_skeleton]; unfold k0_part12_skel
  simp only [semSignalWord, semWaitWord, Prog.lift, Prog.bind_op, Prog.bind_ret, Prog.pure_eq_ret, wp_deviceId]
  iintro ⟨#Hctx, ⟨%XHgs0, Hgs0⟩, ⟨%XHygc0, Hygc0⟩, HO, Hts7, Htr12⟩ Hk
  iapply (slot_load 𝒱₀ c) $$ Hgs0; iintro Hgs0
  iapply (slot_store 𝒱₀ c) $$ Hgs0; iintro Hgs0
  iapply (send_step A K c _ (peer c 0) (dev8_eq c) 4 7 12 (by decide) (by decide) (sS := ⟨11, by decide⟩) (sR := ⟨16, by decide⟩) rfl rfl rfl rfl rfl (Ms := gsM) (Md := gcM) (offs := ![0, 0, 0]) (offd := ![2, 0, 0]) (size := S1x4x320.size) (X := GS A c 0) (s' := S4x320) rfl (BI.Entails.refl _) (gc_land0 A c)) $$ [Hgs0 Hygc0 HO Hts7 Htr12]
  · isplitr; · iexact Hctx
    isplitl [Hgs0]; · iexact Hgs0
    isplitl [Hygc0]; · iexact Hygc0
    isplitl [HO]; · iexact HO
    isplitl [Hts7]; · iexact Hts7
    iexact Htr12
  iintro ⟨Hcr7, HO⟩
  rw [wp_ret]; imodintro
  show Entails' _ (Q ⟨Scalar.addi (w2 c) 3#32, 4#32, 0#32⟩)
  iapply Hk
  isplitl [HO]; · iexact HO
  iexact Hcr7

/-- Part 13 of the body: what it uses and what it leaves. -/
theorem part13 (c : Dev nD) {Q : _ → sProp (MT nD τ sig Unit (Elt F) ℕ UU ℕ)} :
    iprop(ctx A K)
      ⊢ iprop(((emp) -∗ Q (m33 A c))
        -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (S3m A c) it16 (wt A c) (Scalar.addi (w2 c) 3#32) 4#32 0#32) Q) := by
  rw [k0_part13_eq_skeleton]; unfold k0_part13_skel
  simp only [semSignalWord, semWaitWord, Prog.lift, Prog.bind_op, Prog.bind_ret, Prog.pure_eq_ret, wp_deviceId]
  iintro #Hctx Hk
  rw [wp_ret]; imodintro
  show Entails' _ (Q (m33 A c))
  iapply Hk
  iempintro

/-- Part 14 of the body: what it uses and what it leaves. -/
theorem part14 (c : Dev nD) {Q : _ → sProp (MT nD τ sig Unit (Elt F) ℕ UU ℕ)} :
    iprop(ctx A K ∗ (∃ X, gsS (F := F) c 2 inb_S3x4x320_S1x4x320_2_0_0 (X)) ∗ (∃ X, gcS (F := F) (peer c 2) 0 inb_S3x4x320_S1x4x320_0_0_0 (X)) ∗ ow (F := F) c 4 ∗ dutyTok ER (kcell (c, 9)) 0 (0 : Fin 3) ∗ dutyTok ER (kcell (peer c 2, 10)) 0 (0 : Fin 3) ∗ ownM (F := F) c eM (A.e c) ∗ (∃ X, ebS (F := F) c 0 inb_S256x2048_S256x512_0_0 (X)))
      ⊢ iprop(((ow (F := F) c 3 ∗ cred (tallyAt (kcell (c, 9)) () (amk 9)) ∗ ownM (F := F) c eM (A.e c) ∗ ebS (F := F) c 0 inb_S256x2048_S256x512_0_0 (EW A c 0)) -∗ Q ⟨⟩)
        -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (w2 c) (m33 A c)) Q) := by
  rw [k0_part14_eq_skeleton]; unfold k0_part14_skel
  simp only [semSignalWord, semWaitWord, Prog.lift, Prog.bind_op, Prog.bind_ret, Prog.pure_eq_ret, wp_deviceId]
  iintro ⟨#Hctx, ⟨%XHgs2, Hgs2⟩, ⟨%XHygc2, Hygc2⟩, HO, Hts9, Htr10, He, ⟨%XHc0, Hc0⟩⟩ Hk
  iapply (slot_load 𝒱₀ c) $$ Hgs2; iintro Hgs2
  iapply (slot_store 𝒱₀ c) $$ Hgs2; iintro Hgs2
  iapply (send_step A K c _ (peer c 2) (dev9_eq c) 3 9 10 (by decide) (by decide) (sS := ⟨13, by decide⟩) (sR := ⟨14, by decide⟩) rfl rfl rfl rfl rfl (Ms := gsM) (Md := gcM) (offs := ![2, 0, 0]) (offd := ![0, 0, 0]) (size := S1x4x320.size) (X := GS A c 2) (s' := S4x320) rfl (BI.Entails.refl _) (gc_land2 A c)) $$ [Hgs2 Hygc2 HO Hts9 Htr10]
  · isplitr; · iexact Hctx
    isplitl [Hgs2]; · iexact Hgs2
    isplitl [Hygc2]; · iexact Hygc2
    isplitl [HO]; · iexact HO
    isplitl [Hts9]; · iexact Hts9
    iexact Htr10
  iintro ⟨Hcr9, HO⟩
  iapply (own_load 𝒱₀ c) $$ He; iintro He
  iapply (slot_load 𝒱₀ c) $$ Hc0; iintro Hc0
  iapply (slot_store 𝒱₀ c) $$ Hc0; iintro Hc0
  rw [wp_ret]; imodintro
  iapply Hk
  isplitl [HO]; · iexact HO
  isplitl [Hcr9]; · iexact Hcr9
  isplitl [He]; · iexact He
  iexact Hc0

/-- Part 15 of the body: what it uses and what it leaves. -/
theorem part15 (c : Dev nD) {Q : _ → sProp (MT nD τ sig Unit (Elt F) ℕ UU ℕ)} :
    iprop(ctx A K ∗ ownM (F := F) c eM (A.e c) ∗ (∃ X, ebS (F := F) c 512 inb_S256x2048_S256x512_0_512 (X)) ∗ (∃ X, ebS (F := F) c 1024 inb_S256x2048_S256x512_0_1024 (X)) ∗ (∃ X, ebS (F := F) c 1536 inb_S256x2048_S256x512_0_1536 (X)) ∗ ebS (F := F) c 0 inb_S256x2048_S256x512_0_0 (EW A c 0))
      ⊢ iprop(((ownM (F := F) c eM (A.e c) ∗ ownM (F := F) c ebM (E A c)) -∗ Q (w550 c))
        -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c)) Q) := by
  rw [k0_part15_eq_skeleton]; unfold k0_part15_skel
  simp only [semSignalWord, semWaitWord, Prog.lift, Prog.bind_op, Prog.bind_ret, Prog.pure_eq_ret, wp_deviceId]
  iintro ⟨#Hctx, He, ⟨%XHc1, Hc1⟩, ⟨%XHc2, Hc2⟩, ⟨%XHc3, Hc3⟩, Hc0⟩ Hk
  iapply (own_load 𝒱₀ c) $$ He; iintro He
  iapply (slot_load 𝒱₀ c) $$ Hc1; iintro Hc1
  iapply (slot_store 𝒱₀ c) $$ Hc1; iintro Hc1
  iapply (own_load 𝒱₀ c) $$ He; iintro He
  iapply (slot_load 𝒱₀ c) $$ Hc2; iintro Hc2
  iapply (slot_store 𝒱₀ c) $$ Hc2; iintro Hc2
  iapply (own_load 𝒱₀ c) $$ He; iintro He
  iapply (slot_load 𝒱₀ c) $$ Hc3; iintro Hc3
  iapply (slot_store 𝒱₀ c) $$ Hc3; iintro Hc3
  ihave Heb := (eb_join A c) $$ [Hc0 Hc1 Hc2 Hc3]
  · isplitl [Hc0]; · iexact Hc0
    isplitl [Hc1]; · iexact Hc1
    isplitl [Hc2]; · iexact Hc2
    iexact Hc3
  rw [wp_ret]; imodintro
  show Entails' _ (Q (w550 c))
  iapply Hk
  isplitl [He]; · iexact He
  iexact Heb

/-- Part 16 of the body: what it uses and what it leaves. -/
theorem part16 (c : Dev nD) {Q : _ → sProp (MT nD τ sig Unit (Elt F) ℕ UU ℕ)} :
    iprop(ctx A K ∗ cred (tallyAt (kcell (c, 4)) () (amk 4)) ∗ ow (F := F) c 3 ∗ atPos ER (kcell (c, 4)) 0 ∅ 0 ∗ ownM (F := F) c ebM (E A c) ∗ cred (tallyAt (kcell (c, 10)) () (amk 10)) ∗ atPos ER (kcell (c, 10)) 0 ∅ 0)
      ⊢ iprop(((ow (F := F) c 3 ∗ semVal (kcell (c, 4)) 0 ∗ xcS (F := F) c 0 inb_S3x320x256_S1x320x256_0_0_0 (XC A c 0) ∗ ownM (F := F) c ebM (E A c) ∗ semVal (kcell (c, 10)) 0 ∗ gcS (F := F) c 0 inb_S3x4x320_S1x4x320_0_0_0 (GC A c 0)) -∗ Q (v561 A c))
        -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (w550 c)) Q) := by
  rw [k0_part16_eq_skeleton]; unfold k0_part16_skel
  simp only [semSignalWord, semWaitWord, Prog.lift, Prog.bind_op, Prog.bind_ret, Prog.pure_eq_ret, wp_deviceId]
  iintro ⟨#Hctx, Hcr4, HO, Hat4, Heb, Hcr10, Hat10⟩ Hk
  iapply (wait_step A K c 4 (by decide) (sm := ⟨8, by decide⟩) rfl 3 (by decide) (xcS (F := F) c 0 inb_S3x320x256_S1x320x256_0_0_0 (XC A c 0)) (BI.Entails.refl _) (s := S320x256) (e := .bf16) rfl) $$ [Hcr4 HO Hat4]
  · isplitr; · iexact Hctx
    isplitl [Hcr4]; · iexact Hcr4
    isplitl [HO]; · iexact HO
    iexact Hat4
  iintro ⟨HO, Hz4, Hxc0⟩
  iapply (slot_load 𝒱₀ c) $$ Hxc0; iintro Hxc0
  iapply (own_load_all 𝒱₀ c hz2) $$ Heb; iintro Heb
  iapply (wait_step A K c 10 (by decide) (sm := ⟨14, by decide⟩) rfl 3 (by decide) (gcS (F := F) c 0 inb_S3x4x320_S1x4x320_0_0_0 (GC A c 0)) (BI.Entails.refl _) (s := S4x320) (e := .bf16) rfl) $$ [Hcr10 HO Hat10]
  · isplitr; · iexact Hctx
    isplitl [Hcr10]; · iexact Hcr10
    isplitl [HO]; · iexact HO
    iexact Hat10
  iintro ⟨HO, Hz10, Hgc0⟩
  rw [wp_ret]; imodintro
  show Entails' _ (Q (v561 A c))
  iapply Hk
  isplitl [HO]; · iexact HO
  isplitl [Hz4]; · iexact Hz4
  isplitl [Hxc0]; · iexact Hxc0
  isplitl [Heb]; · iexact Heb
  isplitl [Hz10]; · iexact Hz10
  iexact Hgc0

/-- Part 17 of the body: what it uses and what it leaves. -/
theorem part17 (c : Dev nD) {Q : _ → sProp (MT nD τ sig Unit (Elt F) ℕ UU ℕ)} :
    iprop(ctx A K ∗ gcS (F := F) c 0 inb_S3x4x320_S1x4x320_0_0_0 (GC A c 0) ∗ (∃ X, psS (F := F) c 0 inb_S3x320x512_S1x320x512_0_0_0 (X)))
      ⊢ iprop(((gcS (F := F) c 0 inb_S3x4x320_S1x4x320_0_0_0 (GC A c 0) ∗ psS (F := F) c 0 inb_S3x320x512_S1x320x512_0_0_0 (PS A c 0)) -∗ Q ⟨w224 c, 1#32⟩)
        -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (v561 A c)) Q) := by
  rw [k0_part17_eq_skeleton]; unfold k0_part17_skel
  simp only [semSignalWord, semWaitWord, Prog.lift, Prog.bind_op, Prog.bind_ret, Prog.pure_eq_ret, wp_deviceId]
  iintro ⟨#Hctx, Hgc0, ⟨%XHps0, Hps0⟩⟩ Hk
  iapply (slot_load 𝒱₀ c) $$ Hgc0; iintro Hgc0
  iapply (slot_load 𝒱₀ c) $$ Hps0; iintro Hps0
  iapply (slot_store 𝒱₀ c) $$ Hps0; iintro Hps0
  rw [wp_ret]; imodintro
  show Entails' _ (Q ⟨w224 c, 1#32⟩)
  iapply Hk
  isplitl [Hgc0]; · iexact Hgc0
  iexact Hps0

/-- Part 18 of the body: what it uses and what it leaves. -/
theorem part18 (c : Dev nD) {Q : _ → sProp (MT nD τ sig Unit (Elt F) ℕ UU ℕ)} :
    iprop(ctx A K ∗ psS (F := F) c 0 inb_S3x320x512_S1x320x512_0_0_0 (PS A c 0) ∗ (∃ X, pcS (F := F) (peer c 0) 2 inb_S3x320x512_S1x320x512_2_0_0 (X)) ∗ ow (F := F) c 3 ∗ dutyTok ER (kcell (c, 13)) 0 (0 : Fin 3) ∗ dutyTok ER (kcell (peer c 0, 18)) 0 (0 : Fin 3) ∗ cred (tallyAt (kcell (c, 5)) () (amk 5)) ∗ atPos ER (kcell (c, 5)) 0 ∅ 0)
      ⊢ iprop(((ow (F := F) c 2 ∗ cred (tallyAt (kcell (c, 13)) () (amk 13)) ∗ semVal (kcell (c, 5)) 0 ∗ xcS (F := F) c 1 inb_S3x320x256_S1x320x256_1_0_0 (XC A c 1)) -∗ Q (v651 A c))
        -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (w2 c) (w224 c) 1#32) Q) := by
  rw [k0_part18_eq_skeleton]; unfold k0_part18_skel
  simp only [semSignalWord, semWaitWord, Prog.lift, Prog.bind_op, Prog.bind_ret, Prog.pure_eq_ret, wp_deviceId]
  iintro ⟨#Hctx, Hps0, ⟨%XHypc0, Hypc0⟩, HO, Hts13, Htr18, Hcr5, Hat5⟩ Hk
  iapply (send_step A K c _ (peer c 0) (dev10_eq c) 2 13 18 (by decide) (by decide) (sS := ⟨17, by decide⟩) (sR := ⟨22, by decide⟩) rfl rfl rfl rfl rfl (Ms := psM) (Md := pcM) (offs := ![0, 0, 0]) (offd := ![2, 0, 0]) (size := S1x320x512.size) (X := PS A c 0) (s' := S320x512) rfl (BI.Entails.refl _) (pc_land0 A c)) $$ [Hps0 Hypc0 HO Hts13 Htr18]
  · isplitr; · iexact Hctx
    isplitl [Hps0]; · iexact Hps0
    isplitl [Hypc0]; · iexact Hypc0
    isplitl [HO]; · iexact HO
    isplitl [Hts13]; · iexact Hts13
    iexact Htr18
  iintro ⟨Hcr13, HO⟩
  iapply (wait_step A K c 5 (by decide) (sm := ⟨9, by decide⟩) rfl 2 (by decide) (xcS (F := F) c 1 inb_S3x320x256_S1x320x256_1_0_0 (XC A c 1)) (BI.Entails.refl _) (s := S320x256) (e := .bf16) rfl) $$ [Hcr5 HO Hat5]
  · isplitr; · iexact Hctx
    isplitl [Hcr5]; · iexact Hcr5
    isplitl [HO]; · iexact HO
    iexact Hat5
  iintro ⟨HO, Hz5, Hxc1⟩
  iapply (slot_load 𝒱₀ c) $$ Hxc1; iintro Hxc1
  rw [wp_ret]; imodintro
  show Entails' _ (Q (v651 A c))
  iapply Hk
  isplitl [HO]; · iexact HO
  isplitl [Hcr13]; · iexact Hcr13
  isplitl [Hz5]; · iexact Hz5
  iexact Hxc1

/-- Part 19 of the body: what it uses and what it leaves. -/
theorem part19 (c : Dev nD) {Q : _ → sProp (MT nD τ sig Unit (Elt F) ℕ UU ℕ)} :
    iprop(ctx A K ∗ ownM (F := F) c ebM (E A c) ∗ cred (tallyAt (kcell (c, 11)) () (amk 11)) ∗ ow (F := F) c 2 ∗ atPos ER (kcell (c, 11)) 0 ∅ 0)
      ⊢ iprop(((ownM (F := F) c ebM (E A c) ∗ ow (F := F) c 2 ∗ semVal (kcell (c, 11)) 0 ∗ gcS (F := F) c 1 inb_S3x4x320_S1x4x320_1_0_0 (GC A c 1)) -∗ Q ⟨(k0_pay42 (v651 A c) (E A c)), (k0_pay43 (GC A c 1)), (k0_pay44 (v651 A c) (E A c) (GC A c 1)), (k0_pay45 (GC A c 1))⟩)
        -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (v651 A c)) Q) := by
  rw [k0_part19_eq_skeleton]; unfold k0_part19_skel
  simp only [semSignalWord, semWaitWord, Prog.lift, Prog.bind_op, Prog.bind_ret, Prog.pure_eq_ret, wp_deviceId]
  iintro ⟨#Hctx, Heb, Hcr11, HO, Hat11⟩ Hk
  iapply (own_load_all 𝒱₀ c hz2) $$ Heb; iintro Heb
  iapply (wait_step A K c 11 (by decide) (sm := ⟨15, by decide⟩) rfl 2 (by decide) (gcS (F := F) c 1 inb_S3x4x320_S1x4x320_1_0_0 (GC A c 1)) (BI.Entails.refl _) (s := S4x320) (e := .bf16) rfl) $$ [Hcr11 HO Hat11]
  · isplitr; · iexact Hctx
    isplitl [Hcr11]; · iexact Hcr11
    isplitl [HO]; · iexact HO
    iexact Hat11
  iintro ⟨HO, Hz11, Hgc1⟩
  iapply (slot_load 𝒱₀ c) $$ Hgc1; iintro Hgc1
  rw [wp_ret]; imodintro
  show Entails' _ (Q ⟨(k0_pay42 (v651 A c) (E A c)), (k0_pay43 (GC A c 1)), (k0_pay44 (v651 A c) (E A c) (GC A c 1)), (k0_pay45 (GC A c 1))⟩)
  iapply Hk
  isplitl [Heb]; · iexact Heb
  isplitl [HO]; · iexact HO
  isplitl [Hz11]; · iexact Hz11
  iexact Hgc1

/-- Part 20 of the body: what it uses and what it leaves. -/
theorem part20 (c : Dev nD) {Q : _ → sProp (MT nD τ sig Unit (Elt F) ℕ UU ℕ)} :
    iprop(ctx A K ∗ (∃ X, psS (F := F) c 1 inb_S3x320x512_S1x320x512_1_0_0 (X)) ∗ (∃ X, pcS (F := F) (peer c 1) 1 inb_S3x320x512_S1x320x512_1_0_0 (X)) ∗ ow (F := F) c 2 ∗ dutyTok ER (kcell (c, 14)) 0 (0 : Fin 3) ∗ dutyTok ER (kcell (peer c 1, 17)) 0 (0 : Fin 3))
      ⊢ iprop(((ow (F := F) c 1 ∗ cred (tallyAt (kcell (c, 14)) () (amk 14))) -∗ Q ⟨Scalar.addi (w2 c) 3#32, 4#32, 0#32⟩)
        -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (w2 c) (k0_pay42 (v651 A c) (E A c)) (k0_pay43 (GC A c 1)) (k0_pay44 (v651 A c) (E A c) (GC A c 1)) (k0_pay45 (GC A c 1))) Q) := by
  rw [k0_part20_eq_skeleton]; unfold k0_part20_skel
  simp only [semSignalWord, semWaitWord, Prog.lift, Prog.bind_op, Prog.bind_ret, Prog.pure_eq_ret, wp_deviceId]
  iintro ⟨#Hctx, ⟨%XHps1, Hps1⟩, ⟨%XHypc1, Hypc1⟩, HO, Hts14, Htr17⟩ Hk
  iapply (slot_load 𝒱₀ c) $$ Hps1; iintro Hps1
  iapply (slot_store 𝒱₀ c) $$ Hps1; iintro Hps1
  iapply (send_step A K c _ (peer c 1) (dev11_eq c) 1 14 17 (by decide) (by decide) (sS := ⟨18, by decide⟩) (sR := ⟨21, by decide⟩) rfl rfl rfl rfl rfl (Ms := psM) (Md := pcM) (offs := ![1, 0, 0]) (offd := ![1, 0, 0]) (size := S1x320x512.size) (X := PS A c 1) (s' := S320x512) rfl (BI.Entails.refl _) (pc_land1 A c)) $$ [Hps1 Hypc1 HO Hts14 Htr17]
  · isplitr; · iexact Hctx
    isplitl [Hps1]; · iexact Hps1
    isplitl [Hypc1]; · iexact Hypc1
    isplitl [HO]; · iexact HO
    isplitl [Hts14]; · iexact Hts14
    iexact Htr17
  iintro ⟨Hcr14, HO⟩
  rw [wp_ret]; imodintro
  show Entails' _ (Q ⟨Scalar.addi (w2 c) 3#32, 4#32, 0#32⟩)
  iapply Hk
  isplitl [HO]; · iexact HO
  iexact Hcr14

/-- Part 21 of the body: what it uses and what it leaves. -/
theorem part21 (c : Dev nD) {Q : _ → sProp (MT nD τ sig Unit (Elt F) ℕ UU ℕ)} :
    iprop(ctx A K ∗ cred (tallyAt (kcell (c, 6)) () (amk 6)) ∗ ow (F := F) c 1 ∗ atPos ER (kcell (c, 6)) 0 ∅ 0 ∗ ownM (F := F) c ebM (E A c))
      ⊢ iprop(((ow (F := F) c 1 ∗ semVal (kcell (c, 6)) 0 ∗ xcS (F := F) c 2 inb_S3x320x256_S1x320x256_2_0_0 (XC A c 2) ∗ ownM (F := F) c ebM (E A c)) -∗ Q ⟨k0_pay47 (XC A c 2) (E A c), w749 c, w754 c, w755 c⟩)
        -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (Scalar.addi (w2 c) 3#32) 4#32 0#32) Q) := by
  rw [k0_part21_eq_skeleton]; unfold k0_part21_skel
  simp only [semSignalWord, semWaitWord, Prog.lift, Prog.bind_op, Prog.bind_ret, Prog.pure_eq_ret, wp_deviceId]
  iintro ⟨#Hctx, Hcr6, HO, Hat6, Heb⟩ Hk
  iapply (wait_step A K c 6 (by decide) (sm := ⟨10, by decide⟩) rfl 1 (by decide) (xcS (F := F) c 2 inb_S3x320x256_S1x320x256_2_0_0 (XC A c 2)) (BI.Entails.refl _) (s := S320x256) (e := .bf16) rfl) $$ [Hcr6 HO Hat6]
  · isplitr; · iexact Hctx
    isplitl [Hcr6]; · iexact Hcr6
    isplitl [HO]; · iexact HO
    iexact Hat6
  iintro ⟨HO, Hz6, Hxc2⟩
  iapply (slot_load 𝒱₀ c) $$ Hxc2; iintro Hxc2
  iapply (own_load_all 𝒱₀ c hz2) $$ Heb; iintro Heb
  rw [wp_ret]; imodintro
  show Entails' _ (Q ⟨k0_pay47 (XC A c 2) (E A c), w749 c, w754 c, w755 c⟩)
  iapply Hk
  isplitl [HO]; · iexact HO
  isplitl [Hz6]; · iexact Hz6
  isplitl [Hxc2]; · iexact Hxc2
  iexact Heb

/-- Part 22 of the body: what it uses and what it leaves. -/
theorem part22 (c : Dev nD) {Q : _ → sProp (MT nD τ sig Unit (Elt F) ℕ UU ℕ)} :
    iprop(ctx A K ∗ cred (tallyAt (kcell (c, 12)) () (amk 12)) ∗ ow (F := F) c 1 ∗ atPos ER (kcell (c, 12)) 0 ∅ 0 ∗ (∃ X, psS (F := F) c 2 inb_S3x320x512_S1x320x512_2_0_0 (X)))
      ⊢ iprop(((ow (F := F) c 1 ∗ semVal (kcell (c, 12)) 0 ∗ gcS (F := F) c 2 inb_S3x4x320_S1x4x320_2_0_0 (GC A c 2) ∗ psS (F := F) c 2 inb_S3x320x512_S1x320x512_2_0_0 (PS A c 2)) -∗ Q ⟨Scalar.addi (w2 c) 3#32, 4#32⟩)
        -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (k0_pay47 (XC A c 2) (E A c)) (w749 c) (w754 c) (w755 c)) Q) := by
  rw [k0_part22_eq_skeleton]; unfold k0_part22_skel
  simp only [semSignalWord, semWaitWord, Prog.lift, Prog.bind_op, Prog.bind_ret, Prog.pure_eq_ret, wp_deviceId]
  iintro ⟨#Hctx, Hcr12, HO, Hat12, ⟨%XHps2, Hps2⟩⟩ Hk
  iapply (wait_step A K c 12 (by decide) (sm := ⟨16, by decide⟩) rfl 1 (by decide) (gcS (F := F) c 2 inb_S3x4x320_S1x4x320_2_0_0 (GC A c 2)) (BI.Entails.refl _) (s := S4x320) (e := .bf16) rfl) $$ [Hcr12 HO Hat12]
  · isplitr; · iexact Hctx
    isplitl [Hcr12]; · iexact Hcr12
    isplitl [HO]; · iexact HO
    iexact Hat12
  iintro ⟨HO, Hz12, Hgc2⟩
  iapply (slot_load 𝒱₀ c) $$ Hgc2; iintro Hgc2
  iapply (slot_load 𝒱₀ c) $$ Hps2; iintro Hps2
  iapply (slot_store 𝒱₀ c) $$ Hps2; iintro Hps2
  rw [wp_ret]; imodintro
  show Entails' _ (Q ⟨Scalar.addi (w2 c) 3#32, 4#32⟩)
  iapply Hk
  isplitl [HO]; · iexact HO
  isplitl [Hz12]; · iexact Hz12
  isplitl [Hgc2]; · iexact Hgc2
  iexact Hps2

/-- Part 23 of the body: what it uses and what it leaves. -/
theorem part23 (c : Dev nD) {Q : _ → sProp (MT nD τ sig Unit (Elt F) ℕ UU ℕ)} :
    iprop(ctx A K ∗ psS (F := F) c 2 inb_S3x320x512_S1x320x512_2_0_0 (PS A c 2) ∗ (∃ X, pcS (F := F) (peer c 2) 0 inb_S3x320x512_S1x320x512_0_0_0 (X)) ∗ ow (F := F) c 1 ∗ dutyTok ER (kcell (c, 15)) 0 (0 : Fin 3) ∗ dutyTok ER (kcell (peer c 2, 16)) 0 (0 : Fin 3) ∗ ownM (F := F) c xbM (xb A c) ∗ ownM (F := F) c ebM (E A c))
      ⊢ iprop(((ow (F := F) c 0 ∗ cred (tallyAt (kcell (c, 15)) () (amk 15)) ∗ ownM (F := F) c xbM (xb A c) ∗ ownM (F := F) c ebM (E A c)) -∗ Q ⟨(k0_pay49 (xb A c) (E A c)), (k0_pay50 (w2 c) it16 (wt A c)), (Scalar.addi (Scalar.muli (w2 c) 4#32) 1#32)⟩)
        -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (w2 c) it16 (wt A c) (Scalar.addi (w2 c) 3#32) 4#32) Q) := by
  rw [k0_part23_eq_skeleton]; unfold k0_part23_skel
  simp only [semSignalWord, semWaitWord, Prog.lift, Prog.bind_op, Prog.bind_ret, Prog.pure_eq_ret, wp_deviceId]
  iintro ⟨#Hctx, Hps2, ⟨%XHypc2, Hypc2⟩, HO, Hts15, Htr16, Hxb, Heb⟩ Hk
  iapply (send_step A K c _ (peer c 2) (dev12_eq c) 0 15 16 (by decide) (by decide) (sS := ⟨19, by decide⟩) (sR := ⟨20, by decide⟩) rfl rfl rfl rfl rfl (Ms := psM) (Md := pcM) (offs := ![2, 0, 0]) (offd := ![0, 0, 0]) (size := S1x320x512.size) (X := PS A c 2) (s' := S320x512) rfl (BI.Entails.refl _) (pc_land2 A c)) $$ [Hps2 Hypc2 HO Hts15 Htr16]
  · isplitr; · iexact Hctx
    isplitl [Hps2]; · iexact Hps2
    isplitl [Hypc2]; · iexact Hypc2
    isplitl [HO]; · iexact HO
    isplitl [Hts15]; · iexact Hts15
    iexact Htr16
  iintro ⟨Hcr15, HO⟩
  iapply (own_load_all 𝒱₀ c hz2) $$ Hxb; iintro Hxb
  iapply (own_load_all 𝒱₀ c hz2) $$ Heb; iintro Heb
  rw [wp_ret]; imodintro
  show Entails' _ (Q ⟨(k0_pay49 (xb A c) (E A c)), (k0_pay50 (w2 c) it16 (wt A c)), (Scalar.addi (Scalar.muli (w2 c) 4#32) 1#32)⟩)
  iapply Hk
  isplitl [HO]; · iexact HO
  isplitl [Hcr15]; · iexact Hcr15
  isplitl [Hxb]; · iexact Hxb
  iexact Heb

/-- Part 24 of the body: what it uses and what it leaves. -/
theorem part24 (c : Dev nD) {Q : _ → sProp (MT nD τ sig Unit (Elt F) ℕ UU ℕ)} :
    iprop(ctx A K)
      ⊢ iprop(((emp) -∗ Q (own51 A c))
        -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) it16 (wt A c) (k0_pay49 (xb A c) (E A c)) (k0_pay50 (w2 c) it16 (wt A c)) (Scalar.addi (Scalar.muli (w2 c) 4#32) 1#32)) Q) := by
  rw [k0_part24_eq_skeleton]; unfold k0_part24_skel
  simp only [semSignalWord, semWaitWord, Prog.lift, Prog.bind_op, Prog.bind_ret, Prog.pure_eq_ret, wp_deviceId]
  iintro #Hctx Hk
  rw [wp_ret]; imodintro
  show Entails' _ (Q (own51 A c))
  iapply Hk
  iempintro

/-- Part 25 of the body: what it uses and what it leaves. -/
theorem part25 (c : Dev nD) {Q : _ → sProp (MT nD τ sig Unit (Elt F) ℕ UU ℕ)} :
    iprop(ctx A K ∗ cred (tallyAt (kcell (c, 18)) () (amk 18)) ∗ ow (F := F) c 0 ∗ atPos ER (kcell (c, 18)) 0 ∅ 0 ∗ stS (F := F) c 2 inb_S3x512x320_S1x512x320_2_0_0 (ST A c 2) ∗ cred (tallyAt (kcell (c, 16)) () (amk 16)) ∗ atPos ER (kcell (c, 16)) 0 ∅ 0 ∗ stS (F := F) c 0 inb_S3x512x320_S1x512x320_0_0_0 (ST A c 0))
      ⊢ iprop(((ow (F := F) c 0 ∗ semVal (kcell (c, 18)) 0 ∗ pcS (F := F) c 2 inb_S3x320x512_S1x320x512_2_0_0 (PR A c 2) ∗ stS (F := F) c 2 inb_S3x512x320_S1x512x320_2_0_0 (ST A c 2) ∗ semVal (kcell (c, 16)) 0 ∗ pcS (F := F) c 0 inb_S3x320x512_S1x320x512_0_0_0 (PR A c 0) ∗ stS (F := F) c 0 inb_S3x512x320_S1x512x320_0_0_0 (ST A c 0)) -∗ Q ⟨a52 A c, Scalar.muli (w2 c) 1#32⟩)
        -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (w2 c) (own51 A c)) Q) := by
  rw [k0_part25_eq_skeleton]; unfold k0_part25_skel
  simp only [semSignalWord, semWaitWord, Prog.lift, Prog.bind_op, Prog.bind_ret, Prog.pure_eq_ret, wp_deviceId]
  iintro ⟨#Hctx, Hcr18, HO, Hat18, Hst2, Hcr16, Hat16, Hst0⟩ Hk
  iapply (wait_step A K c 18 (by decide) (sm := ⟨22, by decide⟩) rfl 0 (by decide) (pcS (F := F) c 2 inb_S3x320x512_S1x320x512_2_0_0 (PR A c 2)) (BI.Entails.refl _) (s := S320x512) (e := .bf16) rfl) $$ [Hcr18 HO Hat18]
  · isplitr; · iexact Hctx
    isplitl [Hcr18]; · iexact Hcr18
    isplitl [HO]; · iexact HO
    iexact Hat18
  iintro ⟨HO, Hz18, Hpc2⟩
  iapply (slot_load 𝒱₀ c) $$ Hst2; iintro Hst2
  iapply (slot_load 𝒱₀ c) $$ Hpc2; iintro Hpc2
  iapply (wait_step A K c 16 (by decide) (sm := ⟨20, by decide⟩) rfl 0 (by decide) (pcS (F := F) c 0 inb_S3x320x512_S1x320x512_0_0_0 (PR A c 0)) (BI.Entails.refl _) (s := S320x512) (e := .bf16) rfl) $$ [Hcr16 HO Hat16]
  · isplitr; · iexact Hctx
    isplitl [Hcr16]; · iexact Hcr16
    isplitl [HO]; · iexact HO
    iexact Hat16
  iintro ⟨HO, Hz16, Hpc0⟩
  iapply (slot_load 𝒱₀ c) $$ Hst0; iintro Hst0
  iapply (slot_load 𝒱₀ c) $$ Hpc0; iintro Hpc0
  rw [wp_ret]; imodintro
  show Entails' _ (Q ⟨a52 A c, Scalar.muli (w2 c) 1#32⟩)
  iapply Hk
  isplitl [HO]; · iexact HO
  isplitl [Hz18]; · iexact Hz18
  isplitl [Hpc2]; · iexact Hpc2
  isplitl [Hst2]; · iexact Hst2
  isplitl [Hz16]; · iexact Hz16
  isplitl [Hpc0]; · iexact Hpc0
  iexact Hst0

/-- Part 26 of the body: what it uses and what it leaves. -/
theorem part26 (c : Dev nD) {Q : _ → sProp (MT nD τ sig Unit (Elt F) ℕ UU ℕ)} :
    iprop(ctx A K ∗ cred (tallyAt (kcell (c, 17)) () (amk 17)) ∗ ow (F := F) c 0 ∗ atPos ER (kcell (c, 17)) 0 ∅ 0 ∗ stS (F := F) c 1 inb_S3x512x320_S1x512x320_1_0_0 (ST A c 1) ∗ (∃ X, ownM (F := F) c oM (X)) ∗ cred (tallyAt (kcell (c, 2)) () (amk 2)) ∗ atPos ER (kcell (c, 2)) 0 ∅ 0)
      ⊢ iprop(((ow (F := F) c 0 ∗ semVal (kcell (c, 17)) 0 ∗ pcS (F := F) c 1 inb_S3x320x512_S1x320x512_1_0_0 (PR A c 1) ∗ stS (F := F) c 1 inb_S3x512x320_S1x512x320_1_0_0 (ST A c 1) ∗ ownM (F := F) c oM (OUT A c) ∗ semVal (kcell (c, 2)) 0 ∗ xsS (F := F) c 1 inb_S3x320x256_S1x320x256_1_0_0 (XS A c 1)) -∗ Q ⟨⟩)
        -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (a52 A c) (Scalar.muli (w2 c) 1#32)) Q) := by
  rw [k0_part26_eq_skeleton]; unfold k0_part26_skel
  simp only [semSignalWord, semWaitWord, Prog.lift, Prog.bind_op, Prog.bind_ret, Prog.pure_eq_ret, wp_deviceId]
  iintro ⟨#Hctx, Hcr17, HO, Hat17, Hst1, ⟨%XHout, Hout⟩, Hcr2, Hat2⟩ Hk
  iapply (wait_step A K c 17 (by decide) (sm := ⟨21, by decide⟩) rfl 0 (by decide) (pcS (F := F) c 1 inb_S3x320x512_S1x320x512_1_0_0 (PR A c 1)) (BI.Entails.refl _) (s := S320x512) (e := .bf16) rfl) $$ [Hcr17 HO Hat17]
  · isplitr; · iexact Hctx
    isplitl [Hcr17]; · iexact Hcr17
    isplitl [HO]; · iexact HO
    iexact Hat17
  iintro ⟨HO, Hz17, Hpc1⟩
  iapply (slot_load 𝒱₀ c) $$ Hst1; iintro Hst1
  iapply (slot_load 𝒱₀ c) $$ Hpc1; iintro Hpc1
  iapply (own_load_all 𝒱₀ c hz2) $$ Hout; iintro Hout
  iapply (own_store_all 𝒱₀ c hz2) $$ Hout; iintro Hout
  iapply (wait_step A K c 2 (by decide) (sm := ⟨6, by decide⟩) rfl 0 (by decide) (xsS (F := F) c 1 inb_S3x320x256_S1x320x256_1_0_0 (XS A c 1)) (BI.Entails.refl _) (s := S320x256) (e := .bf16) rfl) $$ [Hcr2 HO Hat2]
  · isplitr; · iexact Hctx
    isplitl [Hcr2]; · iexact Hcr2
    isplitl [HO]; · iexact HO
    iexact Hat2
  iintro ⟨HO, Hz2, Hxs1⟩
  rw [wp_ret]; imodintro
  iapply Hk
  isplitl [HO]; · iexact HO
  isplitl [Hz17]; · iexact Hz17
  isplitl [Hpc1]; · iexact Hpc1
  isplitl [Hst1]; · iexact Hst1
  isplitl [Hout]; · iexact Hout
  isplitl [Hz2]; · iexact Hz2
  iexact Hxs1

/-- Part 27 of the body: what it uses and what it leaves. -/
theorem part27 (c : Dev nD) {Q : _ → sProp (MT nD τ sig Unit (Elt F) ℕ UU ℕ)} :
    iprop(ctx A K ∗ cred (tallyAt (kcell (c, 1)) () (amk 1)) ∗ ow (F := F) c 0 ∗ atPos ER (kcell (c, 1)) 0 ∅ 0 ∗ cred (tallyAt (kcell (c, 3)) () (amk 3)) ∗ atPos ER (kcell (c, 3)) 0 ∅ 0 ∗ cred (tallyAt (kcell (c, 8)) () (amk 8)) ∗ atPos ER (kcell (c, 8)) 0 ∅ 0 ∗ cred (tallyAt (kcell (c, 7)) () (amk 7)) ∗ atPos ER (kcell (c, 7)) 0 ∅ 0)
      ⊢ iprop(((ow (F := F) c 0 ∗ semVal (kcell (c, 1)) 0 ∗ xsS (F := F) c 0 inb_S3x320x256_S1x320x256_0_0_0 (XS A c 0) ∗ semVal (kcell (c, 3)) 0 ∗ xsS (F := F) c 2 inb_S3x320x256_S1x320x256_2_0_0 (XS A c 2) ∗ semVal (kcell (c, 8)) 0 ∗ gsS (F := F) c 1 inb_S3x4x320_S1x4x320_1_0_0 (GS A c 1) ∗ semVal (kcell (c, 7)) 0 ∗ gsS (F := F) c 0 inb_S3x4x320_S1x4x320_0_0_0 (GS A c 0)) -∗ Q ⟨⟩)
        -∗ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 ) Q) := by
  rw [k0_part27_eq_skeleton]; unfold k0_part27_skel
  simp only [semSignalWord, semWaitWord, Prog.lift, Prog.bind_op, Prog.bind_ret, Prog.pure_eq_ret, wp_deviceId]
  iintro ⟨#Hctx, Hcr1, HO, Hat1, Hcr3, Hat3, Hcr8, Hat8, Hcr7, Hat7⟩ Hk
  iapply (wait_step A K c 1 (by decide) (sm := ⟨5, by decide⟩) rfl 0 (by decide) (xsS (F := F) c 0 inb_S3x320x256_S1x320x256_0_0_0 (XS A c 0)) (BI.Entails.refl _) (s := S320x256) (e := .bf16) rfl) $$ [Hcr1 HO Hat1]
  · isplitr; · iexact Hctx
    isplitl [Hcr1]; · iexact Hcr1
    isplitl [HO]; · iexact HO
    iexact Hat1
  iintro ⟨HO, Hz1, Hxs0⟩
  iapply (wait_step A K c 3 (by decide) (sm := ⟨7, by decide⟩) rfl 0 (by decide) (xsS (F := F) c 2 inb_S3x320x256_S1x320x256_2_0_0 (XS A c 2)) (BI.Entails.refl _) (s := S320x256) (e := .bf16) rfl) $$ [Hcr3 HO Hat3]
  · isplitr; · iexact Hctx
    isplitl [Hcr3]; · iexact Hcr3
    isplitl [HO]; · iexact HO
    iexact Hat3
  iintro ⟨HO, Hz3, Hxs2⟩
  iapply (wait_step A K c 8 (by decide) (sm := ⟨12, by decide⟩) rfl 0 (by decide) (gsS (F := F) c 1 inb_S3x4x320_S1x4x320_1_0_0 (GS A c 1)) (BI.Entails.refl _) (s := S4x320) (e := .bf16) rfl) $$ [Hcr8 HO Hat8]
  · isplitr; · iexact Hctx
    isplitl [Hcr8]; · iexact Hcr8
    isplitl [HO]; · iexact HO
    iexact Hat8
  iintro ⟨HO, Hz8, Hgs1⟩
  iapply (wait_step A K c 7 (by decide) (sm := ⟨11, by decide⟩) rfl 0 (by decide) (gsS (F := F) c 0 inb_S3x4x320_S1x4x320_0_0_0 (GS A c 0)) (BI.Entails.refl _) (s := S4x320) (e := .bf16) rfl) $$ [Hcr7 HO Hat7]
  · isplitr; · iexact Hctx
    isplitl [Hcr7]; · iexact Hcr7
    isplitl [HO]; · iexact HO
    iexact Hat7
  iintro ⟨HO, Hz7, Hgs0⟩
  rw [wp_ret]; imodintro
  iapply Hk
  isplitl [HO]; · iexact HO
  isplitl [Hz1]; · iexact Hz1
  isplitl [Hxs0]; · iexact Hxs0
  isplitl [Hz3]; · iexact Hz3
  isplitl [Hxs2]; · iexact Hxs2
  isplitl [Hz8]; · iexact Hz8
  isplitl [Hgs1]; · iexact Hgs1
  isplitl [Hz7]; · iexact Hz7
  iexact Hgs0

end Cert.MoE
-- ==== Proof.BodyB.lean ====
/-
# The body

The parts put together: what the body starts from and what it leaves.
-/
module

public import proofs.«01_k».proof.Proof.BodyA

@[expose] public section

set_option maxRecDepth 65536

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A slot lies in its three-slot buffer. -/
theorem in3 (a b : ℕ) (t x : Fin 3) : (![t.val, 0, 0] : Fin 3 → ℕ) x + (![1, a, b] : Fin 3 → ℕ) x ≤ (⟨3, ![3, a, b]⟩ : Shape).size x := by
  have := t.isLt
  fin_cases x
  · simp; omega
  · simp
  · simp

/-- The buffer `xsM` taken apart. -/
theorem xs_split (c : Dev nD) : iprop(∃ X, ownM (F := F) c xsM X) ⊢ iprop((∃ X, xsS (F := F) c 0 inb_S3x320x256_S1x320x256_0_0_0 X) ∗ (∃ X, xsS (F := F) c 1 inb_S3x320x256_S1x320x256_1_0_0 X) ∗ (∃ X, xsS (F := F) c 2 inb_S3x320x256_S1x320x256_2_0_0 X)) := by
  iintro ⟨%X, H⟩
  iapply (show ownM (F := F) c xsM X ⊢ iprop((∃ X, xsS (F := F) c 0 inb_S3x320x256_S1x320x256_0_0_0 X) ∗ (∃ X, xsS (F := F) c 1 inb_S3x320x256_S1x320x256_1_0_0 X) ∗ (∃ X, xsS (F := F) c 2 inb_S3x320x256_S1x320x256_2_0_0 X)) from three_split (in3 320 256) c xsM X)
  iexact H

/-- The buffer `xsM` put back together. -/
theorem xs_join (c : Dev nD) : iprop((∃ X, xsS (F := F) c 0 inb_S3x320x256_S1x320x256_0_0_0 X) ∗ (∃ X, xsS (F := F) c 1 inb_S3x320x256_S1x320x256_1_0_0 X) ∗ (∃ X, xsS (F := F) c 2 inb_S3x320x256_S1x320x256_2_0_0 X)) ⊢ iprop(∃ X, ownM (F := F) c xsM X) :=
  three_join (in3 320 256) c xsM

/-- The buffer `xcM` taken apart. -/
theorem xc_split (c : Dev nD) : iprop(∃ X, ownM (F := F) c xcM X) ⊢ iprop((∃ X, xcS (F := F) c 0 inb_S3x320x256_S1x320x256_0_0_0 X) ∗ (∃ X, xcS (F := F) c 1 inb_S3x320x256_S1x320x256_1_0_0 X) ∗ (∃ X, xcS (F := F) c 2 inb_S3x320x256_S1x320x256_2_0_0 X)) := by
  iintro ⟨%X, H⟩
  iapply (show ownM (F := F) c xcM X ⊢ iprop((∃ X, xcS (F := F) c 0 inb_S3x320x256_S1x320x256_0_0_0 X) ∗ (∃ X, xcS (F := F) c 1 inb_S3x320x256_S1x320x256_1_0_0 X) ∗ (∃ X, xcS (F := F) c 2 inb_S3x320x256_S1x320x256_2_0_0 X)) from three_split (in3 320 256) c xcM X)
  iexact H

/-- The buffer `xcM` put back together. -/
theorem xc_join (c : Dev nD) : iprop((∃ X, xcS (F := F) c 0 inb_S3x320x256_S1x320x256_0_0_0 X) ∗ (∃ X, xcS (F := F) c 1 inb_S3x320x256_S1x320x256_1_0_0 X) ∗ (∃ X, xcS (F := F) c 2 inb_S3x320x256_S1x320x256_2_0_0 X)) ⊢ iprop(∃ X, ownM (F := F) c xcM X) :=
  three_join (in3 320 256) c xcM

/-- The buffer `gsM` taken apart. -/
theorem gs_split (c : Dev nD) : iprop(∃ X, ownM (F := F) c gsM X) ⊢ iprop((∃ X, gsS (F := F) c 0 inb_S3x4x320_S1x4x320_0_0_0 X) ∗ (∃ X, gsS (F := F) c 1 inb_S3x4x320_S1x4x320_1_0_0 X) ∗ (∃ X, gsS (F := F) c 2 inb_S3x4x320_S1x4x320_2_0_0 X)) := by
  iintro ⟨%X, H⟩
  iapply (show ownM (F := F) c gsM X ⊢ iprop((∃ X, gsS (F := F) c 0 inb_S3x4x320_S1x4x320_0_0_0 X) ∗ (∃ X, gsS (F := F) c 1 inb_S3x4x320_S1x4x320_1_0_0 X) ∗ (∃ X, gsS (F := F) c 2 inb_S3x4x320_S1x4x320_2_0_0 X)) from three_split (in3 4 320) c gsM X)
  iexact H

/-- The buffer `gsM` put back together. -/
theorem gs_join (c : Dev nD) : iprop((∃ X, gsS (F := F) c 0 inb_S3x4x320_S1x4x320_0_0_0 X) ∗ (∃ X, gsS (F := F) c 1 inb_S3x4x320_S1x4x320_1_0_0 X) ∗ (∃ X, gsS (F := F) c 2 inb_S3x4x320_S1x4x320_2_0_0 X)) ⊢ iprop(∃ X, ownM (F := F) c gsM X) :=
  three_join (in3 4 320) c gsM

/-- The buffer `gcM` taken apart. -/
theorem gc_split (c : Dev nD) : iprop(∃ X, ownM (F := F) c gcM X) ⊢ iprop((∃ X, gcS (F := F) c 0 inb_S3x4x320_S1x4x320_0_0_0 X) ∗ (∃ X, gcS (F := F) c 1 inb_S3x4x320_S1x4x320_1_0_0 X) ∗ (∃ X, gcS (F := F) c 2 inb_S3x4x320_S1x4x320_2_0_0 X)) := by
  iintro ⟨%X, H⟩
  iapply (show ownM (F := F) c gcM X ⊢ iprop((∃ X, gcS (F := F) c 0 inb_S3x4x320_S1x4x320_0_0_0 X) ∗ (∃ X, gcS (F := F) c 1 inb_S3x4x320_S1x4x320_1_0_0 X) ∗ (∃ X, gcS (F := F) c 2 inb_S3x4x320_S1x4x320_2_0_0 X)) from three_split (in3 4 320) c gcM X)
  iexact H

/-- The buffer `gcM` put back together. -/
theorem gc_join (c : Dev nD) : iprop((∃ X, gcS (F := F) c 0 inb_S3x4x320_S1x4x320_0_0_0 X) ∗ (∃ X, gcS (F := F) c 1 inb_S3x4x320_S1x4x320_1_0_0 X) ∗ (∃ X, gcS (F := F) c 2 inb_S3x4x320_S1x4x320_2_0_0 X)) ⊢ iprop(∃ X, ownM (F := F) c gcM X) :=
  three_join (in3 4 320) c gcM

/-- The buffer `psM` taken apart. -/
theorem ps_split (c : Dev nD) : iprop(∃ X, ownM (F := F) c psM X) ⊢ iprop((∃ X, psS (F := F) c 0 inb_S3x320x512_S1x320x512_0_0_0 X) ∗ (∃ X, psS (F := F) c 1 inb_S3x320x512_S1x320x512_1_0_0 X) ∗ (∃ X, psS (F := F) c 2 inb_S3x320x512_S1x320x512_2_0_0 X)) := by
  iintro ⟨%X, H⟩
  iapply (show ownM (F := F) c psM X ⊢ iprop((∃ X, psS (F := F) c 0 inb_S3x320x512_S1x320x512_0_0_0 X) ∗ (∃ X, psS (F := F) c 1 inb_S3x320x512_S1x320x512_1_0_0 X) ∗ (∃ X, psS (F := F) c 2 inb_S3x320x512_S1x320x512_2_0_0 X)) from three_split (in3 320 512) c psM X)
  iexact H

/-- The buffer `psM` put back together. -/
theorem ps_join (c : Dev nD) : iprop((∃ X, psS (F := F) c 0 inb_S3x320x512_S1x320x512_0_0_0 X) ∗ (∃ X, psS (F := F) c 1 inb_S3x320x512_S1x320x512_1_0_0 X) ∗ (∃ X, psS (F := F) c 2 inb_S3x320x512_S1x320x512_2_0_0 X)) ⊢ iprop(∃ X, ownM (F := F) c psM X) :=
  three_join (in3 320 512) c psM

/-- The buffer `pcM` taken apart. -/
theorem pc_split (c : Dev nD) : iprop(∃ X, ownM (F := F) c pcM X) ⊢ iprop((∃ X, pcS (F := F) c 0 inb_S3x320x512_S1x320x512_0_0_0 X) ∗ (∃ X, pcS (F := F) c 1 inb_S3x320x512_S1x320x512_1_0_0 X) ∗ (∃ X, pcS (F := F) c 2 inb_S3x320x512_S1x320x512_2_0_0 X)) := by
  iintro ⟨%X, H⟩
  iapply (show ownM (F := F) c pcM X ⊢ iprop((∃ X, pcS (F := F) c 0 inb_S3x320x512_S1x320x512_0_0_0 X) ∗ (∃ X, pcS (F := F) c 1 inb_S3x320x512_S1x320x512_1_0_0 X) ∗ (∃ X, pcS (F := F) c 2 inb_S3x320x512_S1x320x512_2_0_0 X)) from three_split (in3 320 512) c pcM X)
  iexact H

/-- The buffer `pcM` put back together. -/
theorem pc_join (c : Dev nD) : iprop((∃ X, pcS (F := F) c 0 inb_S3x320x512_S1x320x512_0_0_0 X) ∗ (∃ X, pcS (F := F) c 1 inb_S3x320x512_S1x320x512_1_0_0 X) ∗ (∃ X, pcS (F := F) c 2 inb_S3x320x512_S1x320x512_2_0_0 X)) ⊢ iprop(∃ X, ownM (F := F) c pcM X) :=
  three_join (in3 320 512) c pcM

/-- The buffer `stM` taken apart. -/
theorem st_split (c : Dev nD) : iprop(∃ X, ownM (F := F) c stM X) ⊢ iprop((∃ X, stS (F := F) c 0 inb_S3x512x320_S1x512x320_0_0_0 X) ∗ (∃ X, stS (F := F) c 1 inb_S3x512x320_S1x512x320_1_0_0 X) ∗ (∃ X, stS (F := F) c 2 inb_S3x512x320_S1x512x320_2_0_0 X)) := by
  iintro ⟨%X, H⟩
  iapply (show ownM (F := F) c stM X ⊢ iprop((∃ X, stS (F := F) c 0 inb_S3x512x320_S1x512x320_0_0_0 X) ∗ (∃ X, stS (F := F) c 1 inb_S3x512x320_S1x512x320_1_0_0 X) ∗ (∃ X, stS (F := F) c 2 inb_S3x512x320_S1x512x320_2_0_0 X)) from three_split (in3 512 320) c stM X)
  iexact H

/-- The buffer `stM` put back together. -/
theorem st_join (c : Dev nD) : iprop((∃ X, stS (F := F) c 0 inb_S3x512x320_S1x512x320_0_0_0 X) ∗ (∃ X, stS (F := F) c 1 inb_S3x512x320_S1x512x320_1_0_0 X) ∗ (∃ X, stS (F := F) c 2 inb_S3x512x320_S1x512x320_2_0_0 X)) ⊢ iprop(∃ X, ownM (F := F) c stM X) :=
  three_join (in3 512 320) c stM

/-- The scratch buffers, at some contents. -/
def scr (c : Dev nD) : sProp 𝕄 :=
  iprop((∃ X, ownM (F := F) c xbM X) ∗ (∃ X, ownM (F := F) c ebM X) ∗ (∃ X, ownM (F := F) c gsM X) ∗ (∃ X, ownM (F := F) c gcM X) ∗ (∃ X, ownM (F := F) c xsM X) ∗ (∃ X, ownM (F := F) c xcM X) ∗ (∃ X, ownM (F := F) c stM X) ∗ (∃ X, ownM (F := F) c psM X) ∗ (∃ X, ownM (F := F) c pcM X))

/-- The device's positions. -/
def pos (c : Dev nD) : sProp 𝕄 := bigSep Finset.univ fun k : Fin 19 => atPos ER (kcell (c, k)) 0 ∅ 0

theorem pos_eq (c : Dev nD) : pos (F := F) c = iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0 ∗ atPos ER (kcell (c, 9)) 0 ∅ 0 ∗ atPos ER (kcell (c, 10)) 0 ∅ 0 ∗ atPos ER (kcell (c, 11)) 0 ∅ 0 ∗ atPos ER (kcell (c, 12)) 0 ∅ 0 ∗ atPos ER (kcell (c, 13)) 0 ∅ 0 ∗ atPos ER (kcell (c, 14)) 0 ∅ 0 ∗ atPos ER (kcell (c, 15)) 0 ∅ 0 ∗ atPos ER (kcell (c, 16)) 0 ∅ 0 ∗ atPos ER (kcell (c, 17)) 0 ∅ 0 ∗ atPos ER (kcell (c, 18)) 0 ∅ 0) :=
  bigSep_univ_eq_bigSepL [0, 1, 2, 3, 4, 5, 6, 7, 8, 9, 10, 11, 12, 13, 14, 15, 16, 17, 18] (by decide) (by decide) _

/-- The cells' counters at zero. -/
def sems (c : Dev nD) : sProp 𝕄 := bigSep Finset.univ fun k : Fin 19 => semVal (kcell (c, k)) 0

theorem sems_eq (c : Dev nD) : sems (F := F) c = iprop(semVal (kcell (c, 0)) 0 ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0 ∗ semVal (kcell (c, 15)) 0 ∗ semVal (kcell (c, 16)) 0 ∗ semVal (kcell (c, 17)) 0 ∗ semVal (kcell (c, 18)) 0) :=
  bigSep_univ_eq_bigSepL [0, 1, 2, 3, 4, 5, 6, 7, 8, 9, 10, 11, 12, 13, 14, 15, 16, 17, 18] (by decide) (by decide) _

/-- The tokens of the payments the device makes. -/
def payToks (c : Dev nD) : sProp 𝕄 :=
  iprop(dutyTok ER (kcell (peer c 0, 0)) 0 (2 : Fin 3) ∗ dutyTok ER (kcell (peer c 1, 0)) 0 (1 : Fin 3) ∗ dutyTok ER (kcell (peer c 2, 0)) 0 (0 : Fin 3) ∗ dutyTok ER (kcell (c, 1)) 0 (0 : Fin 3) ∗ dutyTok ER (kcell (c, 2)) 0 (0 : Fin 3) ∗ dutyTok ER (kcell (c, 3)) 0 (0 : Fin 3) ∗ dutyTok ER (kcell (c, 7)) 0 (0 : Fin 3) ∗ dutyTok ER (kcell (c, 8)) 0 (0 : Fin 3) ∗ dutyTok ER (kcell (c, 9)) 0 (0 : Fin 3) ∗ dutyTok ER (kcell (c, 13)) 0 (0 : Fin 3) ∗ dutyTok ER (kcell (c, 14)) 0 (0 : Fin 3) ∗ dutyTok ER (kcell (c, 15)) 0 (0 : Fin 3) ∗ dutyTok ER (kcell (peer c 0, 6)) 0 (0 : Fin 3) ∗ dutyTok ER (kcell (peer c 1, 5)) 0 (0 : Fin 3) ∗ dutyTok ER (kcell (peer c 2, 4)) 0 (0 : Fin 3) ∗ dutyTok ER (kcell (peer c 0, 12)) 0 (0 : Fin 3) ∗ dutyTok ER (kcell (peer c 1, 11)) 0 (0 : Fin 3) ∗ dutyTok ER (kcell (peer c 2, 10)) 0 (0 : Fin 3) ∗ dutyTok ER (kcell (peer c 0, 18)) 0 (0 : Fin 3) ∗ dutyTok ER (kcell (peer c 1, 17)) 0 (0 : Fin 3) ∗ dutyTok ER (kcell (peer c 2, 16)) 0 (0 : Fin 3))

/-- The tokens of the payments to the device's cells. -/
def toks (c : Dev nD) : sProp 𝕄 :=
  iprop(dutyTok ER (kcell (c, 0)) 0 (2 : Fin 3) ∗ dutyTok ER (kcell (c, 0)) 0 (1 : Fin 3) ∗ dutyTok ER (kcell (c, 0)) 0 (0 : Fin 3) ∗ dutyTok ER (kcell (c, 1)) 0 (0 : Fin 3) ∗ dutyTok ER (kcell (c, 2)) 0 (0 : Fin 3) ∗ dutyTok ER (kcell (c, 3)) 0 (0 : Fin 3) ∗ dutyTok ER (kcell (c, 7)) 0 (0 : Fin 3) ∗ dutyTok ER (kcell (c, 8)) 0 (0 : Fin 3) ∗ dutyTok ER (kcell (c, 9)) 0 (0 : Fin 3) ∗ dutyTok ER (kcell (c, 13)) 0 (0 : Fin 3) ∗ dutyTok ER (kcell (c, 14)) 0 (0 : Fin 3) ∗ dutyTok ER (kcell (c, 15)) 0 (0 : Fin 3) ∗ dutyTok ER (kcell (c, 6)) 0 (0 : Fin 3) ∗ dutyTok ER (kcell (c, 5)) 0 (0 : Fin 3) ∗ dutyTok ER (kcell (c, 4)) 0 (0 : Fin 3) ∗ dutyTok ER (kcell (c, 12)) 0 (0 : Fin 3) ∗ dutyTok ER (kcell (c, 11)) 0 (0 : Fin 3) ∗ dutyTok ER (kcell (c, 10)) 0 (0 : Fin 3) ∗ dutyTok ER (kcell (c, 18)) 0 (0 : Fin 3) ∗ dutyTok ER (kcell (c, 17)) 0 (0 : Fin 3) ∗ dutyTok ER (kcell (c, 16)) 0 (0 : Fin 3))

/-- The credits the device waits with. -/
def crds (c : Dev nD) : sProp 𝕄 :=
  iprop(cred (tallyAt (kcell (c, 0)) () 3) ∗ cred (tallyAt (kcell (c, 4)) () (amk 4)) ∗ cred (tallyAt (kcell (c, 5)) () (amk 5)) ∗ cred (tallyAt (kcell (c, 6)) () (amk 6)) ∗ cred (tallyAt (kcell (c, 10)) () (amk 10)) ∗ cred (tallyAt (kcell (c, 11)) () (amk 11)) ∗ cred (tallyAt (kcell (c, 12)) () (amk 12)) ∗ cred (tallyAt (kcell (c, 16)) () (amk 16)) ∗ cred (tallyAt (kcell (c, 17)) () (amk 17)) ∗ cred (tallyAt (kcell (c, 18)) () (amk 18)))

variable (A : Args F) (K : Dev nD × Fin 19 → ℕ)

/-- What the body starts from. -/
def bodyIn (c : Dev nD) : sProp 𝕄 :=
  iprop(ctx A K ∗ pos c ∗ payToks c ∗ crds c ∗ scr c ∗ ow c 12 ∗ ownM (F := F) c xM (A.x c) ∗ ownM (F := F) c wM (A.w c) ∗ ownM (F := F) c iM (A.i c) ∗ ownM (F := F) c eM (A.e c) ∗ (∃ X, ownM (F := F) c oM (X)))

/-- What the body leaves. -/
def bodyOut (c : Dev nD) : sProp 𝕄 :=
  iprop(sems c ∗ scr c ∗ ow c 0 ∗ ownM (F := F) c xM (A.x c) ∗ ownM (F := F) c wM (A.w c) ∗ ownM (F := F) c iM (A.i c) ∗ ownM (F := F) c eM (A.e c) ∗ ownM (F := F) c oM (OUT A c))

set_option maxHeartbeats 1600000 in
/-- The body, part by part. -/
theorem body_run (c : Dev nD) (Kt : PUnit → sProp (MT nD τ sig Unit (Elt F) ℕ UU ℕ)) :
    iprop(bodyIn A K c ∗ (bodyOut A c -∗ Kt ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Kt := by
  rw [cc0_body_eq_skeleton]; unfold cc0_body_skel
  rw [k0_part28_eq_skeleton]; unfold k0_part28_skel
  unfold bodyIn scr payToks crds
  rw [pos_eq]
  iintro ⟨⟨#Hctx, ⟨Hat0, Hat1, Hat2, Hat3, Hat4, Hat5, Hat6, Hat7, Hat8, Hat9, Hat10, Hat11, Hat12, Hat13, Hat14, Hat15, Hat16, Hat17, Hat18⟩, ⟨Htb0, Htb1, Htb2, Hts1, Hts2, Hts3, Hts7, Hts8, Hts9, Hts13, Hts14, Hts15, Htr6, Htr5, Htr4, Htr12, Htr11, Htr10, Htr18, Htr17, Htr16⟩, ⟨Hcr0, Hcr4, Hcr5, Hcr6, Hcr10, Hcr11, Hcr12, Hcr16, Hcr17, Hcr18⟩, ⟨Hxb, Hbeb, Hbgs, Hbgc, Hbxs, Hbxc, Hbst, Hbps, Hbpc⟩, HO, Hx, Hw, Hi, He, Hout⟩, Hk⟩
  icases Hbeb with ⟨%Xeb, Hbeb⟩
  ihave Hbeb := (eb_split (F := F) c Xeb) $$ Hbeb
  icases Hbeb with ⟨Hc0, Hc1, Hc2, Hc3⟩
  ihave Hbxs := (xs_split (F := F) c) $$ Hbxs
  icases Hbxs with ⟨Hxs0, Hxs1, Hxs2⟩
  ihave Hbxc := (xc_split (F := F) c) $$ Hbxc
  icases Hbxc with ⟨Hxc0, Hxc1, Hxc2⟩
  ihave Hbgs := (gs_split (F := F) c) $$ Hbgs
  icases Hbgs with ⟨Hgs0, Hgs1, Hgs2⟩
  ihave Hbgc := (gc_split (F := F) c) $$ Hbgc
  icases Hbgc with ⟨Hgc0, Hgc1, Hgc2⟩
  ihave Hbps := (ps_split (F := F) c) $$ Hbps
  icases Hbps with ⟨Hps0, Hps1, Hps2⟩
  ihave Hbpc := (pc_split (F := F) c) $$ Hbpc
  icases Hbpc with ⟨Hpc0, Hpc1, Hpc2⟩
  ihave Hbst := (st_split (F := F) c) $$ Hbst
  icases Hbst with ⟨Hst0, Hst1, Hst2⟩
  ihave Hbp0 := (barPay_of0 (F := F) c) $$ [Hxc0 Hgc0 Hpc0]
  · isplitl [Hxc0]; · iexact Hxc0
    isplitl [Hgc0]; · iexact Hgc0
    iexact Hpc0
  ihave Hbp1 := (barPay_of1 (F := F) c) $$ [Hxc1 Hgc1 Hpc1]
  · isplitl [Hxc1]; · iexact Hxc1
    isplitl [Hgc1]; · iexact Hgc1
    iexact Hpc1
  ihave Hbp2 := (barPay_of2 (F := F) c) $$ [Hxc2 Hgc2 Hpc2]
  · isplitl [Hxc2]; · iexact Hxc2
    isplitl [Hgc2]; · iexact Hgc2
    iexact Hpc2
  simp only [Prog.lift, Prog.bind_op, Prog.bind_ret, Prog.pure_eq_ret, wp_bind]
  -- part 1
  iapply (part1 A K c) $$ [HO Htb1 Hbp1 Htb0 Hbp0]
  · isplitr; · iexact Hctx
    isplitl [HO]; · iexact HO
    isplitl [Htb1]; · iexact Htb1
    isplitl [Hbp1]; · iexact Hbp1
    isplitl [Htb0]; · iexact Htb0
    iexact Hbp0
  iintro HO
  try simp only [wp_bind]
  -- part 2
  iapply (part2 A K c) $$ [HO Htb2 Hbp2 Hcr0 Hat0 Hx Hxb Hi]
  · isplitr; · iexact Hctx
    isplitl [HO]; · iexact HO
    isplitl [Htb2]; · iexact Htb2
    isplitl [Hbp2]; · iexact Hbp2
    isplitl [Hcr0]; · iexact Hcr0
    isplitl [Hat0]; · iexact Hat0
    isplitl [Hx]; · iexact Hx
    isplitl [Hxb]; · iexact Hxb
    iexact Hi
  iintro ⟨HO, Hz0, Hyxc0, Hygc0, Hypc0, Hyxc1, Hygc1, Hypc1, Hyxc2, Hygc2, Hypc2, Hx, Hxb, Hi⟩
  try simp only [wp_bind]
  -- part 3
  iapply (part3 A K c) $$ []
  · iexact Hctx
  iintro -
  try simp only [wp_bind]
  -- part 4
  iapply (part4 A K c) $$ []
  · iexact Hctx
  iintro -
  try simp only [wp_bind]
  -- part 5
  iapply (part5 A K c) $$ [Hst1 Hxb Hxs1 Hyxc1 HO Hts2 Htr5]
  · isplitr; · iexact Hctx
    isplitl [Hst1]; · iexact Hst1
    isplitl [Hxb]; · iexact Hxb
    isplitl [Hxs1]; · iexact Hxs1
    isplitl [Hyxc1]; · iexact Hyxc1
    isplitl [HO]; · iexact HO
    isplitl [Hts2]; · iexact Hts2
    iexact Htr5
  iintro ⟨Hst1, Hxb, HO, Hcr2⟩
  try simp only [wp_bind]
  -- part 6
  iapply (part6 A K c) $$ [Hst0 Hxb Hxs0]
  · isplitr; · iexact Hctx
    isplitl [Hst0]; · iexact Hst0
    isplitl [Hxb]; · iexact Hxb
    iexact Hxs0
  iintro ⟨Hst0, Hxb, Hxs0⟩
  try simp only [wp_bind]
  -- part 7
  iapply (part7 A K c) $$ [Hxs0 Hyxc0 HO Hts1 Htr6 Hst2 Hxb Hxs2]
  · isplitr; · iexact Hctx
    isplitl [Hxs0]; · iexact Hxs0
    isplitl [Hyxc0]; · iexact Hyxc0
    isplitl [HO]; · iexact HO
    isplitl [Hts1]; · iexact Hts1
    isplitl [Htr6]; · iexact Htr6
    isplitl [Hst2]; · iexact Hst2
    isplitl [Hxb]; · iexact Hxb
    iexact Hxs2
  iintro ⟨HO, Hcr1, Hst2, Hxb, Hxs2⟩
  try simp only [wp_bind]
  -- part 8
  iapply (part8 A K c) $$ [Hxs2 Hyxc2 HO Hts3 Htr4 Hx Hw]
  · isplitr; · iexact Hctx
    isplitl [Hxs2]; · iexact Hxs2
    isplitl [Hyxc2]; · iexact Hyxc2
    isplitl [HO]; · iexact HO
    isplitl [Hts3]; · iexact Hts3
    isplitl [Htr4]; · iexact Htr4
    isplitl [Hx]; · iexact Hx
    iexact Hw
  iintro ⟨HO, Hcr3, Hx, Hw⟩
  try simp only [wp_bind]
  -- part 9
  iapply (part9 A K c) $$ []
  · iexact Hctx
  iintro -
  try simp only [wp_bind]
  -- part 10
  iapply (part10 A K c) $$ [Hgs1]
  · isplitr; · iexact Hctx
    iexact Hgs1
  iintro Hgs1
  try simp only [wp_bind]
  -- part 11
  iapply (part11 A K c) $$ [Hgs1 Hygc1 HO Hts8 Htr11]
  · isplitr; · iexact Hctx
    isplitl [Hgs1]; · iexact Hgs1
    isplitl [Hygc1]; · iexact Hygc1
    isplitl [HO]; · iexact HO
    isplitl [Hts8]; · iexact Hts8
    iexact Htr11
  iintro ⟨HO, Hcr8⟩
  try simp only [wp_bind]
  -- part 12
  iapply (part12 A K c) $$ [Hgs0 Hygc0 HO Hts7 Htr12]
  · isplitr; · iexact Hctx
    isplitl [Hgs0]; · iexact Hgs0
    isplitl [Hygc0]; · iexact Hygc0
    isplitl [HO]; · iexact HO
    isplitl [Hts7]; · iexact Hts7
    iexact Htr12
  iintro ⟨HO, Hcr7⟩
  try simp only [wp_bind]
  -- part 13
  iapply (part13 A K c) $$ []
  · iexact Hctx
  iintro -
  try simp only [wp_bind]
  -- part 14
  iapply (part14 A K c) $$ [Hgs2 Hygc2 HO Hts9 Htr10 He Hc0]
  · isplitr; · iexact Hctx
    isplitl [Hgs2]; · iexact Hgs2
    isplitl [Hygc2]; · iexact Hygc2
    isplitl [HO]; · iexact HO
    isplitl [Hts9]; · iexact Hts9
    isplitl [Htr10]; · iexact Htr10
    isplitl [He]; · iexact He
    iexact Hc0
  iintro ⟨HO, Hcr9, He, Hc0⟩
  try simp only [wp_bind]
  -- part 15
  iapply (part15 A K c) $$ [He Hc1 Hc2 Hc3 Hc0]
  · isplitr; · iexact Hctx
    isplitl [He]; · iexact He
    isplitl [Hc1]; · iexact Hc1
    isplitl [Hc2]; · iexact Hc2
    isplitl [Hc3]; · iexact Hc3
    iexact Hc0
  iintro ⟨He, Heb⟩
  try simp only [wp_bind]
  -- part 16
  iapply (part16 A K c) $$ [Hcr4 HO Hat4 Heb Hcr10 Hat10]
  · isplitr; · iexact Hctx
    isplitl [Hcr4]; · iexact Hcr4
    isplitl [HO]; · iexact HO
    isplitl [Hat4]; · iexact Hat4
    isplitl [Heb]; · iexact Heb
    isplitl [Hcr10]; · iexact Hcr10
    iexact Hat10
  iintro ⟨HO, Hz4, Hxc0, Heb, Hz10, Hgc0⟩
  try simp only [wp_bind]
  -- part 17
  iapply (part17 A K c) $$ [Hgc0 Hps0]
  · isplitr; · iexact Hctx
    isplitl [Hgc0]; · iexact Hgc0
    iexact Hps0
  iintro ⟨Hgc0, Hps0⟩
  try simp only [wp_bind]
  -- part 18
  iapply (part18 A K c) $$ [Hps0 Hypc0 HO Hts13 Htr18 Hcr5 Hat5]
  · isplitr; · iexact Hctx
    isplitl [Hps0]; · iexact Hps0
    isplitl [Hypc0]; · iexact Hypc0
    isplitl [HO]; · iexact HO
    isplitl [Hts13]; · iexact Hts13
    isplitl [Htr18]; · iexact Htr18
    isplitl [Hcr5]; · iexact Hcr5
    iexact Hat5
  iintro ⟨HO, Hcr13, Hz5, Hxc1⟩
  try simp only [wp_bind]
  -- part 19
  iapply (part19 A K c) $$ [Heb Hcr11 HO Hat11]
  · isplitr; · iexact Hctx
    isplitl [Heb]; · iexact Heb
    isplitl [Hcr11]; · iexact Hcr11
    isplitl [HO]; · iexact HO
    iexact Hat11
  iintro ⟨Heb, HO, Hz11, Hgc1⟩
  try simp only [wp_bind]
  -- part 20
  iapply (part20 A K c) $$ [Hps1 Hypc1 HO Hts14 Htr17]
  · isplitr; · iexact Hctx
    isplitl [Hps1]; · iexact Hps1
    isplitl [Hypc1]; · iexact Hypc1
    isplitl [HO]; · iexact HO
    isplitl [Hts14]; · iexact Hts14
    iexact Htr17
  iintro ⟨HO, Hcr14⟩
  try simp only [wp_bind]
  -- part 21
  iapply (part21 A K c) $$ [Hcr6 HO Hat6 Heb]
  · isplitr; · iexact Hctx
    isplitl [Hcr6]; · iexact Hcr6
    isplitl [HO]; · iexact HO
    isplitl [Hat6]; · iexact Hat6
    iexact Heb
  iintro ⟨HO, Hz6, Hxc2, Heb⟩
  try simp only [wp_bind]
  -- part 22
  iapply (part22 A K c) $$ [Hcr12 HO Hat12 Hps2]
  · isplitr; · iexact Hctx
    isplitl [Hcr12]; · iexact Hcr12
    isplitl [HO]; · iexact HO
    isplitl [Hat12]; · iexact Hat12
    iexact Hps2
  iintro ⟨HO, Hz12, Hgc2, Hps2⟩
  try simp only [wp_bind]
  -- part 23
  iapply (part23 A K c) $$ [Hps2 Hypc2 HO Hts15 Htr16 Hxb Heb]
  · isplitr; · iexact Hctx
    isplitl [Hps2]; · iexact Hps2
    isplitl [Hypc2]; · iexact Hypc2
    isplitl [HO]; · iexact HO
    isplitl [Hts15]; · iexact Hts15
    isplitl [Htr16]; · iexact Htr16
    isplitl [Hxb]; · iexact Hxb
    iexact Heb
  iintro ⟨HO, Hcr15, Hxb, Heb⟩
  try simp only [wp_bind]
  -- part 24
  iapply (part24 A K c) $$ []
  · iexact Hctx
  iintro -
  try simp only [wp_bind]
  -- part 25
  iapply (part25 A K c) $$ [Hcr18 HO Hat18 Hst2 Hcr16 Hat16 Hst0]
  · isplitr; · iexact Hctx
    isplitl [Hcr18]; · iexact Hcr18
    isplitl [HO]; · iexact HO
    isplitl [Hat18]; · iexact Hat18
    isplitl [Hst2]; · iexact Hst2
    isplitl [Hcr16]; · iexact Hcr16
    isplitl [Hat16]; · iexact Hat16
    iexact Hst0
  iintro ⟨HO, Hz18, Hpc2, Hst2, Hz16, Hpc0, Hst0⟩
  try simp only [wp_bind]
  -- part 26
  iapply (part26 A K c) $$ [Hcr17 HO Hat17 Hst1 Hout Hcr2 Hat2]
  · isplitr; · iexact Hctx
    isplitl [Hcr17]; · iexact Hcr17
    isplitl [HO]; · iexact HO
    isplitl [Hat17]; · iexact Hat17
    isplitl [Hst1]; · iexact Hst1
    isplitl [Hout]; · iexact Hout
    isplitl [Hcr2]; · iexact Hcr2
    iexact Hat2
  iintro ⟨HO, Hz17, Hpc1, Hst1, Hout, Hz2, Hxs1⟩
  try simp only [wp_bind]
  -- part 27
  iapply (part27 A K c) $$ [Hcr1 HO Hat1 Hcr3 Hat3 Hcr8 Hat8 Hcr7 Hat7]
  · isplitr; · iexact Hctx
    isplitl [Hcr1]; · iexact Hcr1
    isplitl [HO]; · iexact HO
    isplitl [Hat1]; · iexact Hat1
    isplitl [Hcr3]; · iexact Hcr3
    isplitl [Hat3]; · iexact Hat3
    isplitl [Hcr8]; · iexact Hcr8
    isplitl [Hat8]; · iexact Hat8
    isplitl [Hcr7]; · iexact Hcr7
    iexact Hat7
  iintro ⟨HO, Hz1, Hxs0, Hz3, Hxs2, Hz8, Hgs1, Hz7, Hgs0⟩
  try simp only [wp_bind]
  iapply (wait_step A K c 9 (by decide) (sm := ⟨13, by decide⟩) rfl 0 (by decide) (gsS (F := F) c 2 inb_S3x4x320_S1x4x320_2_0_0 (GS A c 2)) (BI.Entails.refl _) (s := S4x320) (e := .bf16) rfl) $$ [Hcr9 HO Hat9]
  · isplitr; · iexact Hctx
    isplitl [Hcr9]; · iexact Hcr9
    isplitl [HO]; · iexact HO
    iexact Hat9
  iintro ⟨HO, Hz9, Hgs2⟩
  iapply (wait_step A K c 13 (by decide) (sm := ⟨17, by decide⟩) rfl 0 (by decide) (psS (F := F) c 0 inb_S3x320x512_S1x320x512_0_0_0 (PS A c 0)) (BI.Entails.refl _) (s := S320x512) (e := .bf16) rfl) $$ [Hcr13 HO Hat13]
  · isplitr; · iexact Hctx
    isplitl [Hcr13]; · iexact Hcr13
    isplitl [HO]; · iexact HO
    iexact Hat13
  iintro ⟨HO, Hz13, Hps0⟩
  rw [wp_ret]; imodintro
  iapply (wait_step A K c 14 (by decide) (sm := ⟨18, by decide⟩) rfl 0 (by decide) (psS (F := F) c 1 inb_S3x320x512_S1x320x512_1_0_0 (PS A c 1)) (BI.Entails.refl _) (s := S320x512) (e := .bf16) rfl) $$ [Hcr14 HO Hat14]
  · isplitr; · iexact Hctx
    isplitl [Hcr14]; · iexact Hcr14
    isplitl [HO]; · iexact HO
    iexact Hat14
  iintro ⟨HO, Hz14, Hps1⟩
  iapply (wait_step A K c 15 (by decide) (sm := ⟨19, by decide⟩) rfl 0 (by decide) (psS (F := F) c 2 inb_S3x320x512_S1x320x512_2_0_0 (PS A c 2)) (BI.Entails.refl _) (s := S320x512) (e := .bf16) rfl) $$ [Hcr15 HO Hat15]
  · isplitr; · iexact Hctx
    isplitl [Hcr15]; · iexact Hcr15
    isplitl [HO]; · iexact HO
    iexact Hat15
  iintro ⟨HO, Hz15, Hps2⟩
  rw [wp_ret]; imodintro
  iapply Hk
  unfold bodyOut scr
  rw [sems_eq]
  isplitl [Hz0 Hz1 Hz2 Hz3 Hz4 Hz5 Hz6 Hz7 Hz8 Hz9 Hz10 Hz11 Hz12 Hz13 Hz14 Hz15 Hz16 Hz17 Hz18]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    iexact Hz18
  isplitl [Hxb Heb Hgs0 Hgs1 Hgs2 Hgc0 Hgc1 Hgc2 Hxs0 Hxs1 Hxs2 Hxc0 Hxc1 Hxc2 Hst0 Hst1 Hst2 Hps0 Hps1 Hps2 Hpc0 Hpc1 Hpc2]
  · isplitl [Hxb]; · iexists _; iexact Hxb
    isplitl [Heb]; · iexists _; iexact Heb
    isplitl [Hgs0 Hgs1 Hgs2]
    · iapply (gs_join (F := F) c)
      isplitl [Hgs0]; · iexists _; iexact Hgs0
      isplitl [Hgs1]; · iexists _; iexact Hgs1
      iexists _; iexact Hgs2
    isplitl [Hgc0 Hgc1 Hgc2]
    · iapply (gc_join (F := F) c)
      isplitl [Hgc0]; · iexists _; iexact Hgc0
      isplitl [Hgc1]; · iexists _; iexact Hgc1
      iexists _; iexact Hgc2
    isplitl [Hxs0 Hxs1 Hxs2]
    · iapply (xs_join (F := F) c)
      isplitl [Hxs0]; · iexists _; iexact Hxs0
      isplitl [Hxs1]; · iexists _; iexact Hxs1
      iexists _; iexact Hxs2
    isplitl [Hxc0 Hxc1 Hxc2]
    · iapply (xc_join (F := F) c)
      isplitl [Hxc0]; · iexists _; iexact Hxc0
      isplitl [Hxc1]; · iexists _; iexact Hxc1
      iexists _; iexact Hxc2
    isplitl [Hst0 Hst1 Hst2]
    · iapply (st_join (F := F) c)
      isplitl [Hst0]; · iexists _; iexact Hst0
      isplitl [Hst1]; · iexists _; iexact Hst1
      iexists _; iexact Hst2
    isplitl [Hps0 Hps1 Hps2]
    · iapply (ps_join (F := F) c)
      isplitl [Hps0]; · iexists _; iexact Hps0
      isplitl [Hps1]; · iexists _; iexact Hps1
      iexists _; iexact Hps2
    iapply (pc_join (F := F) c)
    isplitl [Hpc0]; · iexists _; iexact Hpc0
    isplitl [Hpc1]; · iexists _; iexact Hpc1
    iexists _; iexact Hpc2
  isplitl [HO]; · iexact HO
  isplitl [Hx]; · iexact Hx
  isplitl [Hw]; · iexact Hw
  isplitl [Hi]; · iexact Hi
  isplitl [He]; · iexact He
  iexact Hout

end Cert.MoE
-- ==== Proof.Run.lean ====
/-
# The launch

The cells allocated for all devices at once, the tokens dealt around the devices, and the run of the program.
-/
module

public import proofs.«01_k».proof.Proof.BodyB
public import proofs.«01_k».proof.Proof.Gen.KernelIdeal.Frame
public import Idealize.ShloMosaic.Lib.Quiescent
public import Idealize.ShloMosaic.Lib.Pipeline.CollectiveSegs

@[expose] public section

set_option maxRecDepth 65536

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The one grid point. -/
def tp : Fin cfg0.N := ⟨0, by decide⟩
theorem tp_only (t : Fin cfg0.N) : t = tp := by
  obtain ⟨t, ht⟩ := t
  have h : cfg0.N = 1 := by decide
  exact Fin.ext (by simp only [tp]; omega)

/-- The arguments the devices hold at launch. -/
def argsOf : Args F where
  x c := iblk m c 0 tp
  w c := iblk m c 1 tp
  i c := iblk m c 2 tp
  e c := iblk m c 3 tp

/-- The kernel's own transfer semaphores. -/
abbrev osem : Fin 18 → SemLoc sig := fun k => .dma ⟨k.val + 5, Nat.add_lt_add_right k.isLt 5⟩

/-- What the launch deals a device of the protocol. -/
def ghost (A : Args F) (c : Dev nD) : sProp 𝕄 := iprop(∃ K, records A K ∗ pos c ∗ payToks c)

/-- What a device starts from, its buffers aside. -/
def start (A : Args F) (c : Dev nD) : sProp 𝕄 := iprop(ghost A c ∗ crds c ∗ levAts L lv)

/-- Before the grid point. -/
def phi0 (A : Args F) (c : Dev nD) : sProp 𝕄 := iprop(start A c ∗ scr c)
/-- After the grid point. -/
def phi1 (c : Dev nD) : sProp 𝕄 := iprop(sems c ∗ scr c)

/-- The pipeline's data: what each window holds after the point, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (argsOf m).x c
    | ⟨1, _⟩ => (argsOf m).w c
    | ⟨2, _⟩ => (argsOf m).i c
    | ⟨3, _⟩ => (argsOf m).e c
    | ⟨4, _⟩ => OUT (argsOf m) c
  Φ t := match t with
    | ⟨0, _⟩ => phi0 (argsOf m) c
    | ⟨_ + 1, _⟩ => phi1 c
  q _ := fullShare
  owed t := match t with
    | ⟨0, _⟩ => Ow c 12
    | ⟨_ + 1, _⟩ => 0

/-- Before the body, spelled out. -/
def obIn (c : Dev nD) : sProp 𝕄 :=
  iprop(phi0 (argsOf m) c ∗ (dats m ρ 0 c).owesAt () tp.castSucc
    ∗ (∃ d, ownM c xM ((dats m ρ 0 c).before (0 : Fin 5) tp d))
    ∗ (∃ d, ownM c wM ((dats m ρ 0 c).before (1 : Fin 5) tp d))
    ∗ (∃ d, ownM c iM ((dats m ρ 0 c).before (2 : Fin 5) tp d))
    ∗ (∃ d, ownM c eM ((dats m ρ 0 c).before (3 : Fin 5) tp d))
    ∗ (∃ d, ownM c oM ((dats m ρ 0 c).before (4 : Fin 5) tp d)))

/-- After the body, spelled out. -/
def obOut (c : Dev nD) : sProp 𝕄 :=
  iprop(phi1 c ∗ (dats m ρ 0 c).owesAt () tp.succ
    ∗ ownM c xM ((argsOf m).x c) ∗ ownM c wM ((argsOf m).w c) ∗ ownM c iM ((argsOf m).i c) ∗ ownM c eM ((argsOf m).e c)
    ∗ ownM c oM (OUT (argsOf m) c))

theorem before_x (c : Dev nD) (d) : (dats m ρ 0 c).before (0 : Fin 5) tp d = (argsOf m).x c := by
  unfold Dat.before; rw [if_pos (fetch0_0 tp)]; rfl
theorem before_w (c : Dev nD) (d) : (dats m ρ 0 c).before (1 : Fin 5) tp d = (argsOf m).w c := by
  unfold Dat.before; rw [if_pos (fetch0_1 tp)]; rfl
theorem before_i (c : Dev nD) (d) : (dats m ρ 0 c).before (2 : Fin 5) tp d = (argsOf m).i c := by
  unfold Dat.before; rw [if_pos (fetch0_2 tp)]; rfl
theorem before_e (c : Dev nD) (d) : (dats m ρ 0 c).before (3 : Fin 5) tp d = (argsOf m).e c := by
  unfold Dat.before; rw [if_pos (fetch0_3 tp)]; rfl

/-- The body from what it finds to what it leaves. -/
theorem ob_run (c : Dev nD) : obIn m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) (fun _ => obOut m ρ c) := by
  unfold obIn phi0 start ghost
  simp only [before_x, before_w, before_i, before_e]
  unfold Dat.owesAt Pipeline.owesWithin
  rw [show (dats m ρ 0 c).owed tp.castSucc = Ow c 12 from rfl]
  iintro ⟨⟨⟨⟨%K, #HR, Hpos, Htok⟩, Hcr, #Hlev⟩, Hscr⟩, ⟨%W, %hW, HO⟩, ⟨%d0, Hx⟩, ⟨%d1, Hw⟩, ⟨%d2, Hi⟩, ⟨%d3, He⟩, ⟨%d4, Hout⟩⟩
  iapply (body_run (argsOf m) K c fun _ => obOut m ρ c)
  unfold bodyIn
  isplitr []
  · isplitr
    · unfold ctx
      isplitr; · iexact HR
      iexact Hlev
    isplitl [Hpos]; · iexact Hpos
    isplitl [Htok]; · iexact Htok
    isplitl [Hcr]; · iexact Hcr
    isplitl [Hscr]; · iexact Hscr
    isplitl [HO]; · unfold ow; iexists W; iexact HO
    isplitl [Hx]; · iexact Hx
    isplitl [Hw]; · iexact Hw
    isplitl [Hi]; · iexact Hi
    isplitl [He]; · iexact He
    iexists _; iexact Hout
  · unfold bodyOut obOut phi1 ow Dat.owesAt Pipeline.owesWithin
    rw [show (dats m ρ 0 c).owed tp.succ = 0 from rfl, show Ow c 0 = 0 from rfl]
    iintro ⟨Hs, Hscr, ⟨%W', HO⟩, Hx, Hw, Hi, He, Hout⟩
    isplitl [Hs Hscr]
    · isplitl [Hs] <;> iassumption
    isplitl [HO]
    · iexists W'
      isplitr; · ipureintro; exact fun _ _ => Or.inl trivial
      iexact HO
    isplitl [Hx]; · iexact Hx
    isplitl [Hw]; · iexact Hw
    isplitl [Hi]; · iexact Hi
    isplitl [He]; · iexact He
    iexact Hout

/-- The library's obligation for the body. -/
theorem ob (c : Dev nD) : BodyObligation (dats (F := F) m ρ 0 c) (defs₀ (F := F)) 𝒱₀ () Set.univ := fun t => by
  rw [tp_only t]
  rw [bigSep_W0, bigSep_W0]
  exact ob_run m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_inj : Function.Injective csem := by decide

theorem kcell_inj : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]

/-- All the cells. -/
def cellsAll : Finset (GSem nD τ sig) := Finset.univ.map ⟨kcell, kcell_inj⟩

/-- Which cell and which duty a token of a device is for. -/
def tkd : Fin 21 → Fin 19 × Fin 3 :=
  ![(0, 2), (0, 1), (0, 0), (1, 0), (2, 0), (3, 0), (7, 0), (8, 0), (9, 0), (13, 0), (14, 0), (15, 0), (6, 0), (5, 0), (4, 0), (12, 0), (11, 0), (10, 0), (18, 0), (17, 0), (16, 0)]
theorem tkd_inj : Function.Injective tkd := by decide
/-- The token minted for a device. -/
def tokOf (cj : Dev nD × Fin 21) : GSem nD τ sig × ℕ × Fin 3 := (kcell (cj.1, (tkd cj.2).1), 0, (tkd cj.2).2)
theorem tokOf_inj : Function.Injective tokOf := by
  rintro ⟨c, j⟩ ⟨c', j'⟩ h
  have hc := kcell_inj (congrArg (fun x : GSem nD τ sig × ℕ × Fin 3 => x.1) h)
  have h1 : c = c' := congrArg Prod.fst hc
  subst h1
  have h2 : tkd j = tkd j' := Prod.ext (congrArg Prod.snd hc) (congrArg (fun x : GSem nD τ sig × ℕ × Fin 3 => x.2.2) h)
  rw [tkd_inj h2]
/-- All the tokens. -/
def toksAll : Finset (GSem nD τ sig × ℕ × Fin 3) := Finset.univ.map ⟨tokOf, tokOf_inj⟩

/-- The launch's ghost element. -/
def u₀ : UU := (initOf (Pipeline.cells cfgs cellOf_inj) (Pipeline.launchToks cfgs cellOf_inj), initOf cellsAll toksAll)

theorem toks_eq (c : Dev nD) : (bigSep Finset.univ fun j : Fin 21 => (dutyTok ER (tokOf (c, j)).1 (tokOf (c, j)).2.1 (tokOf (c, j)).2.2 : sProp 𝕄)) = toks c :=
  bigSep_univ_eq_bigSepL [0, 1, 2, 3, 4, 5, 6, 7, 8, 9, 10, 11, 12, 13, 14, 15, 16, 17, 18, 19, 20] (by decide) (by decide) _

/-- What the launch element deals a device. -/
def G (A : Args F) (c : Dev nD) : sProp 𝕄 :=
  iprop((bigSep Finset.univ fun k : Fin 19 => roundState ER (sched A) (kcell (c, k)) 0)
    ∗ (bigSep Finset.univ fun k : Fin 19 => iprop(atPos ER (kcell (c, k)) 0 ∅ 0 ∗ reached ER (kcell (c, k)) 0)) ∗ toks c)

theorem fund_all (A : Args F) : BI.own (ER (initOf cellsAll toksAll)) ⊢ (|==> bigSep Finset.univ (G A) : sProp 𝕄) := by
  have hX (Φ : GSem nD τ sig → sProp 𝕄) : bigSep cellsAll Φ = bigSep Finset.univ fun c : Dev nD => bigSep Finset.univ fun k : Fin 19 => Φ (kcell (c, k)) := by
    unfold cellsAll; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    exact bigSep_congr fun c _ => toks_eq c
  iintro HX
  imod (Rounds.fund ER (sched A) cellsAll toksAll) $$ HX with ⟨Hst, Hr, Hat, Htok⟩
  imodintro
  ihave Hst' := (Entails.of_eq (hX fun g => roundState ER (sched A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The own semaphores are cells 1 to 18. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0 ∗ semVal (kcell (c, 14)) 0 ∗ semVal (kcell (c, 15)) 0 ∗ semVal (kcell (c, 16)) 0 ∗ semVal (kcell (c, 17)) 0 ∗ semVal (kcell (c, 18)) 0) := by
  rw [Pipeline.ownSems0_eq_of_list c osem [0, 1, 2, 3, 4, 5, 6, 7, 8, 9, 10, 11, 12, 13, 14, 15, 16, 17] (by decide) (by decide)]; rfl
/-- The barrier is the one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems_all (c : Dev nD) : sems (F := F) c
    = iprop(unscopedSems0 c ∗ Pipeline.ownSems0 (Ix := Unit) (Name := ℕ) (U := UU) (Lvl := ℕ) (Val := Elt F) (τ := τ) osem c) := by
  rw [ownSems0_eq, unscopedSems0_eq, sems_eq]

theorem core_alloc (A : Args F) (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (sched A) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_all (F := F) c).symm) $$ [Hos Hus]
  · isplitl [Hus] <;> iassumption
  unfold sems
  imod (show iprop((bigSep Finset.univ fun k : Fin 19 => semVal (kcell (c, k)) 0) ∗ bigSep Finset.univ fun k : Fin 19 => roundState ER (sched A) (kcell (c, k)) 0)
      ⊢ (|={Set.univ}=> bigSep Finset.univ fun k => iprop(∃ κ : ℕ, cellInv ER (sched A) κ (kcell (c, k))) : sProp 𝕄) from by
        rw [← bigSep_sep']
        exact (bigSep_mono fun k _ => (Rounds.body_intro ER (sched A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Going `j + 1` devices on, as a bijection. -/
def peerE (j : Fin 3) : Dev nD ≃ Dev nD := Equiv.ofBijective (fun c => peer c j) (by revert j; decide)

/-- A resource of every device is that resource of every device's peer. -/
theorem around (j : Fin 3) (Φ : Dev nD → sProp 𝕄) : (bigSep Finset.univ fun c => Φ c) ⊢ bigSep Finset.univ fun c => Φ (peer c j) :=
  Entails.of_eq (bigSep_univ_equiv (peerE j) Φ)

/-- The tokens dealt around. -/
theorem toks_around : (bigSep Finset.univ fun c : Dev nD => (toks c : sProp 𝕄)) ⊢ bigSep Finset.univ fun c : Dev nD => payToks c := by
  unfold toks payToks
  simp only [bigSep_sep']
  iintro ⟨Htb0, Htb1, Htb2, Hts1, Hts2, Hts3, Hts7, Hts8, Hts9, Hts13, Hts14, Hts15, Htr6, Htr5, Htr4, Htr12, Htr11, Htr10, Htr18, Htr17, Htr16⟩
  isplitl [Htb0]
  · iapply (around (F := F) 0 fun c => dutyTok ER (kcell (c, 0)) 0 (2 : Fin 3))
    iexact Htb0
  isplitl [Htb1]
  · iapply (around (F := F) 1 fun c => dutyTok ER (kcell (c, 0)) 0 (1 : Fin 3))
    iexact Htb1
  isplitl [Htb2]
  · iapply (around (F := F) 2 fun c => dutyTok ER (kcell (c, 0)) 0 (0 : Fin 3))
    iexact Htb2
  isplitl [Hts1]
  · iexact Hts1
  isplitl [Hts2]
  · iexact Hts2
  isplitl [Hts3]
  · iexact Hts3
  isplitl [Hts7]
  · iexact Hts7
  isplitl [Hts8]
  · iexact Hts8
  isplitl [Hts9]
  · iexact Hts9
  isplitl [Hts13]
  · iexact Hts13
  isplitl [Hts14]
  · iexact Hts14
  isplitl [Hts15]
  · iexact Hts15
  isplitl [Htr6]
  · iapply (around (F := F) 0 fun c => dutyTok ER (kcell (c, 6)) 0 (0 : Fin 3))
    iexact Htr6
  isplitl [Htr5]
  · iapply (around (F := F) 1 fun c => dutyTok ER (kcell (c, 5)) 0 (0 : Fin 3))
    iexact Htr5
  isplitl [Htr4]
  · iapply (around (F := F) 2 fun c => dutyTok ER (kcell (c, 4)) 0 (0 : Fin 3))
    iexact Htr4
  isplitl [Htr12]
  · iapply (around (F := F) 0 fun c => dutyTok ER (kcell (c, 12)) 0 (0 : Fin 3))
    iexact Htr12
  isplitl [Htr11]
  · iapply (around (F := F) 1 fun c => dutyTok ER (kcell (c, 11)) 0 (0 : Fin 3))
    iexact Htr11
  isplitl [Htr10]
  · iapply (around (F := F) 2 fun c => dutyTok ER (kcell (c, 10)) 0 (0 : Fin 3))
    iexact Htr10
  isplitl [Htr18]
  · iapply (around (F := F) 0 fun c => dutyTok ER (kcell (c, 18)) 0 (0 : Fin 3))
    iexact Htr18
  isplitl [Htr17]
  · iapply (around (F := F) 1 fun c => dutyTok ER (kcell (c, 17)) 0 (0 : Fin 3))
    iexact Htr17
  · iapply (around (F := F) 2 fun c => dutyTok ER (kcell (c, 16)) 0 (0 : Fin 3))
    iexact Htr16

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (A : Args F) (K : Dev nD × Fin 19 → ℕ) (c : Dev nD) : iprop(records A K ∗ (pos c ∗ payToks c)) ⊢ ghost A c := by
  unfold ghost
  iintro H
  iexists K
  iexact H

theorem regroup (A : Args F) :
    (bigSep Finset.univ fun c : Dev nD => iprop((bigSep Finset.univ fun k => iprop(∃ κ : ℕ, cellInv ER (sched A) κ (kcell (c, k))))
          ∗ (bigSep Finset.univ fun k => iprop(atPos ER (kcell (c, k)) 0 ∅ 0 ∗ reached ER (kcell (c, k)) 0)) ∗ toks c) : sProp 𝕄)
      ⊢ bigSep Finset.univ (ghost A) := by
  rw [bigSep_sep', bigSep_sep', ← bigSep_univ_prod (fun ck : Dev nD × Fin 19 => iprop(∃ κ : ℕ, cellInv ER (sched A) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (sched A) κ (kcell ck) : sProp 𝕄))) $$ HI
  icases HK with ⟨%K, #HI⟩
  ihave Htk := (toks_around (F := F)) $$ Htok
  iapply (with_persistent (R := records A K) fun c _ => ghost_intro A K c)
  isplitr
  · unfold records; isplitl; · iexact HI
    iexact HR
  · iapply (Entails.of_eq (bigSep_sep' Finset.univ (fun c : Dev nD => (pos c : sProp 𝕄)) payToks).symm)
    isplitl [Hat]; · unfold pos; iexact Hat
    iexact Htk

/-- All devices' cells allocated at once. -/
theorem glob (A : Args F) : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (ghost A) :=
  ((bigSep_mono fun c _ => core_alloc A c).trans (bigSep_fupd _ _)).trans (BI.fupd_mono (regroup A))

/-! ### The launch credit -/

theorem kcell_tally (p q : Dev nD × Fin 19) (n : ℕ) : (tallyAt (kcell p) () n : CellTallies nD τ sig Unit) (kcell q) () = if p = q then n else 0 := by
  rw [tallyAt_apply]
  by_cases h : p = q
  · subst h; rw [if_pos ⟨rfl, rfl⟩, if_pos rfl]
  · rw [if_neg (fun ⟨h1, _⟩ => h (kcell_inj h1.symm)), if_neg h]

/-- What a device owes a cell. -/
theorem Ow_at (d : Dev nD) (q : Dev nD × Fin 19) : ∀ n, Ow d n (kcell q) () = ∑ i ∈ Finset.range n, if (peer d (tj i).1, (tj i).2) = q then amk (tj i).2 else 0
  | 0 => rfl
  | n + 1 => by
    rw [Finset.sum_range_succ, ← Ow_at d q n]
    show (Ow d n + tallyAt (tgt d n) () (amk (tj n).2)) (kcell q) () = _
    rw [Pi.add_apply, Finsupp.add_apply]
    exact congrArg _ (kcell_tally _ q _)

/-- How often the devices pay a cell. -/
theorem pay_count (c : Dev nD) (k : Fin 19) : (∑ d : Dev nD, ∑ i ∈ Finset.range 12, if (peer d (tj i).1, (tj i).2) = (c, k) then 1 else 0)
    = if k.val = 0 then 3 else if (4 ≤ k.val ∧ k.val < 7) ∨ (10 ≤ k.val ∧ k.val < 13) ∨ 16 ≤ k.val then 1 else 0 := by
  revert c k
  decide

theorem pay_sum (c : Dev nD) (k : Fin 19) : (∑ d : Dev nD, Ow d 12 (kcell (c, k)) ())
    = (if k.val = 0 then 3 else if (4 ≤ k.val ∧ k.val < 7) ∨ (10 ≤ k.val ∧ k.val < 13) ∨ 16 ≤ k.val then 1 else 0) * amk k := by
  rw [← pay_count c k, Finset.sum_mul]
  refine Finset.sum_congr rfl fun d _ => ?_
  rw [Ow_at, Finset.sum_mul]
  refine Finset.sum_congr rfl fun i _ => ?_
  by_cases h : (peer d (tj i).1, (tj i).2) = (c, k)
  · rw [if_pos h, if_pos h, Nat.one_mul, show (tj i).2 = k from congrArg Prod.snd h]
  · rw [if_neg h, if_neg h, Nat.zero_mul]

/-- What each device owes at launch. -/
def O₀ (c : Dev nD) : CellTallies nD τ sig Unit := Ow c 12

theorem launch_at (c : Dev nD) (k : Fin 19) (n : ℕ)
    (h : (if k.val = 0 then 3 else if (4 ≤ k.val ∧ k.val < 7) ∨ (10 ≤ k.val ∧ k.val < 13) ∨ 16 ≤ k.val then 1 else 0) * amk k = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, ← h]
  exact pay_sum c k

/-- The cells waited for with a launch credit. -/
def crdCells : Fin 10 → Fin 19 := ![0, 4, 5, 6, 10, 11, 12, 16, 17, 18]
theorem crdCells_inj : Function.Injective crdCells := by decide

theorem creds (c : Dev nD) : (Pipeline.launchCred O₀ c : sProp 𝕄) ⊢ crds c := by
  unfold Pipeline.launchCred
  refine BIBase.Entails.trans (bigSep_subset (t := Finset.univ.map ⟨fun j => csem (crdCells j), csem_inj.comp crdCells_inj⟩) (Finset.subset_univ _)) ?_
  rw [bigSep_map]
  refine BIBase.Entails.trans (Entails.of_eq (bigSep_univ_eq_bigSepL [0, 1, 2, 3, 4, 5, 6, 7, 8, 9] (by decide) (by decide) _)) ?_
  unfold crds
  rw [← launch_at c 0 3 (rfl)]
  rw [← launch_at c 4 (amk 4) (Nat.one_mul _)]
  rw [← launch_at c 5 (amk 5) (Nat.one_mul _)]
  rw [← launch_at c 6 (amk 6) (Nat.one_mul _)]
  rw [← launch_at c 10 (amk 10) (Nat.one_mul _)]
  rw [← launch_at c 11 (amk 11) (Nat.one_mul _)]
  rw [← launch_at c 12 (amk 12) (Nat.one_mul _)]
  rw [← launch_at c 16 (amk 16) (Nat.one_mul _)]
  rw [← launch_at c 17 (amk 17) (Nat.one_mul _)]
  rw [← launch_at c 18 (amk 18) (Nat.one_mul _)]
  exact BI.Entails.refl _

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost (argsOf m) c)
      ⊢ |={Set.univ}=> iprop(start (argsOf m) c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scr_eq (c : Dev nD) : (Pipeline.scopedRest (Ix := Unit) (Name := ℕ) (U := UU) (Lvl := ℕ) (Val := Elt F) spec0 c : sProp 𝕄) = scr c := by
  rw [scopedRest0_eq]
  unfold scr ownM
  simp only [owns_whole]
  rfl

theorem phi0_intro (c : Dev nD) :
    iprop(start (argsOf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 (argsOf m) c from rfl]
  unfold phi0
  rw [← scr_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = phi1 c from rfl]
  unfold phi1
  rw [sems_all, ← scr_eq]
  iintro ⟨⟨Hu, Ho⟩, Hr⟩
  isplitl [Hu]; · iexact Hu
  isplitl [Ho]; · iexact Ho
  iexact Hr

theorem lvs_tj : ∀ i, i < 12 → 0 < lvs (csem (tj i).2) := by decide

/-- The pipeline's own waits are below everything owed. -/
theorem mayWait_stage (c : Dev nD) (q : DmaSem sig) (hq : lvs (SemLoc.dma q) = 0) (O : CellTallies nD τ sig Unit) (hO : O = Ow c 12 ∨ O = 0) :
    (levAts L lv : sProp 𝕄) ⊢ MayWait (c : Thread nD τ) (.dma q) () O := by
  rcases hO with rfl | rfl
  · exact mayWait c (.dma q) 12 fun i hi => by rw [hq]; exact lvs_tj i hi
  · exact mayWait c (.dma q) 0 fun i hi => absurd hi (Nat.not_lt_zero i)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What a window's array holds at the end. -/
def finalA (c : Dev nD) (w : Fin cfg0.W) : Buf (Elt F) ((cfg0.win w).arr.view.loc (c : Thread nD τ)) := (dats m ρ 0 c).arrAt w cfg0.N

/-- Every window's array at the end. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with the counters at zero, every execution terminates with the windows' arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := ob m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (argsOf m)) (G' := ghost (argsOf m)) (u₀ := u₀)
    (hu₀ := by
      unfold u₀
      iintro Hu
      ihave H := (ownU_pair _ _) $$ Hu
      icases H with ⟨HP, HX⟩
      imod (fund_all (argsOf m)) $$ HX with HG
      imodintro
      isplitl [HP] <;> iassumption)
    (hglob := glob (argsOf m))
    (hA := fun _ _ => rfl) (hpf := fun _ k => k.elim0)
    (X := start (argsOf m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it began. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

/-- Every execution terminates, leaves the arguments and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c 0).trans (finalA_in m ρ c 0 rfl), (h.1 c 1).trans (finalA_in m ρ c 1 rfl),
    (h.1 c 2).trans (finalA_in m ρ c 2 rfl), (h.1 c 3).trans (finalA_in m ρ c 3 rfl)⟩, h.2⟩) (run_main m ρ)

end Cert.MoE
-- ==== Proof.Value.lean ====
/-
# What the launch leaves

The result array of every device as a function of the arguments the devices held at launch.
-/
module

public import proofs.«01_k».proof.Proof.Run
public import Idealize.ShloMosaic.Lib.Pipeline.ValueKit

@[expose] public section

noncomputable section

namespace Cert.MoE

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The block of an input is the whole argument: the features. -/
theorem args_x (c : Dev nD) : (argsOf m).x c = m ((c.tc : Thread nD τ).loc main_arg0) := by
  funext j
  have h : ∀ a, (cfg0.win 0).index tp a = 0 := by decide +kernel
  show iblk m c 0 tp j = _
  blk_ext [iblk, V, h]
/-- The router's weights. -/
theorem args_w (c : Dev nD) : (argsOf m).w c = m ((c.tc : Thread nD τ).loc main_arg1) := by
  funext j
  have h : ∀ a, (cfg0.win 1).index tp a = 0 := by decide +kernel
  show iblk m c 1 tp j = _
  blk_ext [iblk, V, h]
/-- The indices. -/
theorem args_i (c : Dev nD) : (argsOf m).i c = m ((c.tc : Thread nD τ).loc main_arg2) := by
  funext j
  have h : ∀ a, (cfg0.win 2).index tp a = 0 := by decide +kernel
  show iblk m c 2 tp j = _
  blk_ext [iblk, V, h]
/-- The experts' weights. -/
theorem args_e (c : Dev nD) : (argsOf m).e c = m ((c.tc : Thread nD τ).loc main_arg3) := by
  funext j
  have h : ∀ a, (cfg0.win 3).index tp a = 0 := by decide +kernel
  show iblk m c 3 tp j = _
  blk_ext [iblk, V, h]

/-- The result array at the end. -/
theorem final_out (c : Dev nD) : finalA m ρ c 4 = OUT (argsOf m) c := by
  refine (dats m ρ 0 c).arrAt_eq_of_after_last 4 tp (by decide +kernel) _ fun j => ?_
  blk_simp
  rfl

/-- Every execution terminates with the results as computed and the arguments as they were. -/
theorem run_value : θ_run defs (onTc (τ := τ) (main (F := F))) ⟨m, fun _ => 0, ρ⟩ (fun r => ∀ c : Dev nD,
      r.2.mem ((c.tc : Thread nD τ).loc main_v1) = OUT (argsOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c 4).trans (final_out m ρ c), (h.1 c 0).trans (finalA_in m ρ c 0 rfl),
    (h.1 c 1).trans (finalA_in m ρ c 1 rfl), (h.1 c 2).trans (finalA_in m ρ c 2 rfl), (h.1 c 3).trans (finalA_in m ρ c 3 rfl)⟩)
    (run_main m ρ)

end Cert.MoE

end
-- ==== Proof.Math.lean ====
/-
# The arithmetic behind the routing

Ranks among selected tokens, the gathering and scattering they define, and the normalised weights of two chosen
experts, over the extended reals.
-/
module

public import Idealize.ShloMosaic.Lib.Pointwise

@[expose] public section

noncomputable section

namespace Cert.MoE

open Idealize.ShloMosaic

/-- How many selected positions come before `t`. -/
def rank {n : ℕ} (s : Fin n → Bool) (t : Fin n) : ℕ := (Finset.univ.filter fun x => x < t ∧ s x = true).card

/-- How many positions are selected. -/
def count {n : ℕ} (s : Fin n → Bool) : ℕ := (Finset.univ.filter fun x => s x = true).card

/-- The rank of a selected position is below the number of selected positions. -/
theorem rank_lt_count {n : ℕ} (s : Fin n → Bool) (t : Fin n) (h : s t = true) : rank s t < count s := by
  refine Finset.card_lt_card ⟨fun x hx => ?_, fun hsub => ?_⟩
  · simp only [Finset.mem_filter, Finset.mem_univ, true_and] at hx ⊢
    exact hx.2
  · have := hsub (x := t) (by simpa using h)
    simp at this

/-- A later position has a greater rank than a selected earlier one. -/
theorem rank_lt_rank {n : ℕ} (s : Fin n → Bool) {t u : Fin n} (h : s t = true) (htu : t < u) : rank s t < rank s u := by
  refine Finset.card_lt_card ⟨fun x hx => ?_, fun hsub => ?_⟩
  · simp only [Finset.mem_filter, Finset.mem_univ, true_and] at hx ⊢
    exact ⟨hx.1.trans htu, hx.2⟩
  · have := hsub (x := t) (by simpa using ⟨htu, h⟩)
    simp at this

/-- Selected positions have different ranks. -/
theorem rank_inj {n : ℕ} (s : Fin n → Bool) {t u : Fin n} (ht : s t = true) (hu : s u = true) (h : rank s t = rank s u) :
    t = u := by
  rcases lt_trichotomy t u with hlt | heq | hlt
  · exact absurd h (rank_lt_rank s ht hlt).ne
  · exact heq
  · exact absurd h (rank_lt_rank s hu hlt).ne'

/-- A rank is at most the number of positions. -/
theorem rank_le {n : ℕ} (s : Fin n → Bool) (t : Fin n) : rank s t ≤ n := by
  refine (Finset.card_filter_le _ _).trans ?_
  simp

/-- The entry of the gathering matrix: one where row `r` takes position `t`. -/
def pick {n : ℕ} (s : Fin n → Bool) (r : ℕ) (t : Fin n) : EReal := if r = rank s t ∧ s t = true then 1 else 0

/-- Row `rank t` of the gathering matrix takes the value at `t`. -/
theorem pick_gather {n : ℕ} (s : Fin n → Bool) (t : Fin n) (h : s t = true) (f : Fin n → EReal) :
    ∑ u, pick s (rank s t) u * f u = f t := by
  rw [Finset.sum_eq_single t]
  · simp [pick, h]
  · intro u _ hu
    rw [pick, if_neg, zero_mul]
    rintro ⟨h1, h2⟩
    exact hu (rank_inj s h2 h h1.symm)
  · simp

/-- The transposed matrix brings the row `rank t` back to a selected `t`. -/
theorem pick_scatter {n k : ℕ} (s : Fin n → Bool) (t : Fin n) (h : s t = true) (hk : rank s t < k) (f : Fin k → EReal) :
    ∑ r : Fin k, pick s r.val t * f r = f ⟨rank s t, hk⟩ := by
  rw [Finset.sum_eq_single ⟨rank s t, hk⟩]
  · simp [pick, h]
  · intro r _ hr
    rw [pick, if_neg, zero_mul]
    rintro ⟨h1, _⟩
    exact hr (Fin.ext h1)
  · simp

/-- It brings nothing to a position that is not selected. -/
theorem pick_scatter_none {n k : ℕ} (s : Fin n → Bool) (t : Fin n) (h : s t = false) (f : Fin k → EReal) :
    ∑ r : Fin k, pick s r.val t * f r = 0 := by
  refine Finset.sum_eq_zero fun r _ => ?_
  rw [pick, if_neg, zero_mul]
  simp [h]

/-- A sum of ones over the earlier selected positions is the rank. -/
theorem sum_rank {n : ℕ} (s : Fin n → Bool) (t : Fin n) :
    ∑ x, (if x < t then (1 : EReal) else 0) * (if s x = true then 1 else 0) = ((rank s t : ℝ) : EReal) := by
  have : ∀ x, (if x < t then (1 : EReal) else 0) * (if s x = true then 1 else 0) = if x < t ∧ s x = true then 1 else 0 := by
    intro x
    by_cases h1 : x < t <;> by_cases h2 : s x = true <;> simp [h1, h2]
  simp only [this]
  rw [Finset.sum_boole]
  rfl

/-! ## The weights -/

variable (p : Fin 16 → EReal) (a b : Fin 16)

/-- A row of probabilities with everything but the two chosen experts put to zero. -/
def kept (e : Fin 16) : EReal := if e = a ∨ e = b then p e else 0

/-- The weights: the kept probabilities over their sum. -/
def weight (e : Fin 16) : EReal := Ideal.div (kept p a b e) (∑ e', kept p a b e')

/-- A quotient of positive numbers. -/
theorem div_pos_coe {x y : ℝ} (hy : 0 < y) : Ideal.div (x : EReal) (y : EReal) = ((x / y : ℝ) : EReal) := by
  rw [Ideal.div_coe hy.ne', ← EReal.coe_mul, mul_one_div]

/-- The sum of the kept probabilities. -/
theorem sum_kept : ∑ e, kept p a b e = if a = b then p a else p a + p b := by
  by_cases h : a = b
  · subst h
    simp [kept]
  · rw [if_neg h]
    have : ∀ e, kept p a b e = (if e = a then p a else 0) + (if e = b then p b else 0) := by
      intro e
      unfold kept
      by_cases h1 : e = a
      · subst h1; simp [h]
      · by_cases h2 : e = b
        · subst h2; simp [h1]
        · simp [h1, h2]
    simp only [this, Finset.sum_add_distrib]
    simp

/-- An expert that is not chosen has weight zero. -/
theorem weight_zero (hp : ∀ e, ∃ r : ℝ, 0 < r ∧ p e = r) (e : Fin 16) (ha : e ≠ a) (hb : e ≠ b) : weight p a b e = 0 := by
  obtain ⟨ra, hra, hpa⟩ := hp a
  obtain ⟨rb, hrb, hpb⟩ := hp b
  unfold weight
  rw [sum_kept, kept, if_neg (by simp [ha, hb])]
  split
  · rw [hpa, ← EReal.coe_zero, div_pos_coe hra]; simp
  · rw [hpa, hpb, ← EReal.coe_add, ← EReal.coe_zero, div_pos_coe (by positivity)]; simp

/-- The weighted sum over all experts is the weighted sum of the two chosen ones. -/
theorem weight_sum (hp : ∀ e, ∃ r : ℝ, 0 < r ∧ p e = r) (Y : Fin 16 → EReal) :
    ∑ e, weight p a b e * Y e
      = Ideal.div (p a) (p a + p b) * Y a + Ideal.div (p b) (p a + p b) * Y b := by
  obtain ⟨ra, hra, hpa⟩ := hp a
  obtain ⟨rb, hrb, hpb⟩ := hp b
  by_cases h : a = b
  · subst h
    rw [Finset.sum_eq_single a]
    · rw [weight, sum_kept, if_pos rfl, kept, if_pos (Or.inl rfl), hpa, ← EReal.coe_add, div_pos_coe hra, div_pos_coe (by positivity),
        ← EReal.right_distrib_of_nonneg (EReal.coe_nonneg.2 (by positivity)) (EReal.coe_nonneg.2 (by positivity)), ← EReal.coe_add]
      congr 2
      field_simp
    · intro e _ he
      rw [weight_zero p a a hp e he he, zero_mul]
    · simp
  · rw [← Finset.sum_subset (Finset.subset_univ {a, b}), Finset.sum_pair h]
    · have ka : kept p a b a = p a := if_pos (Or.inl rfl)
      have kb : kept p a b b = p b := if_pos (Or.inr rfl)
      rw [weight, weight, sum_kept, if_neg h, ka, kb]
    · intro e _ he
      simp only [Finset.mem_insert, Finset.mem_singleton, not_or] at he
      rw [weight_zero p a b hp e he.1 he.2, zero_mul]

/-! ## The four groups -/

/-- Expert `l` of group `g`. -/
def expert (g l : Fin 4) : Fin 16 := ⟨4 * g.val + l.val, by omega⟩

/-- A sum over the experts, group by group. -/
theorem sum_groups (f : Fin 16 → EReal) : ∑ e, f e = ∑ g : Fin 4, ∑ l : Fin 4, f (expert g l) := by
  simp [Fin.sum_univ_succ, expert]
  abel

end Cert.MoE
-- ==== Proof.Read.lean ====
/-
# The routing values read at an index

Over exact values: which tokens a group takes, their ranks, the gathering matrices and the tokens gathered by them.
-/
module

public import proofs.«01_k».proof.Proof.Vals
public import proofs.«01_k».proof.Proof.Math
public import Idealize.ShloMosaic.Lib.Pointwise

@[expose] public section

noncomputable section

namespace Cert.MoE

open Idealize.ShloMosaic Cert.KernelIdeal Cert.KernelIdeal.Gen

variable (A : Args Ideal) (c : Dev nD)

/-! ## The scalars -/

/-- Four times the remainder by four, as the kernel computes it. -/
def wrap4 (u : BitVec 32) : BitVec 32 :=
  let n := Scalar.select (Scalar.cmpi .eq 4#32 0#32) 1#32 4#32
  let r := Scalar.remsi u n
  Scalar.muli (Scalar.select (Scalar.andi (Scalar.xori (Scalar.cmpi .slt r 0#32) (Scalar.cmpi .slt n 0#32)) (Scalar.cmpi .ne r 0#32)) (Scalar.addi r n) r) 4#32

/-- The first expert of a group. -/
def first (g : Fin 4) : BitVec 32 := BitVec.ofNat 32 (4 * g.val)

/-- One further on the ring. -/
theorem wrap4_one : wrap4 (Scalar.addi (w2 c) 1#32) = first (peer c 0) := by revert c; decide
/-- Two further. -/
theorem wrap4_two : wrap4 (Scalar.addi (w2 c) 2#32) = first (peer c 1) := by revert c; decide
/-- Three further. -/
theorem wrap4_three : wrap4 (Scalar.addi (w2 c) 3#32) = first (peer c 2) := by revert c; decide
/-- The device's own first expert. -/
theorem own_first : Scalar.muli (w2 c) 4#32 = first c := by revert c; decide
/-- The first expert of the device two further, as kept. -/
theorem w319_eq : w319 c = first (peer c 1) := by revert c; decide

/-! ## Which tokens go where -/

/-- Whether expert number `e` is one of the four from `b` on. -/
def hit (b e : BitVec 32) : Bool := b.sle e && e.slt (b + 4#32)

/-- Whether token `t` of device `c` goes to group `g`. -/
def goes (g : Fin 4) (t : Fin 512) : Bool := hit (first g) (A.i c (ix2 t 0)) || hit (first g) (A.i c (ix2 t 1))

/-- The selection column for a first expert. -/
def selCol (b : BitVec 32) (e e' : IVec S512x1 32) : FVec Ideal S512x1 .f32 :=
  sitofp .f32 (extui 32 (ori (andi (cmpi .sge e (broadcast S512x1 b)) (cmpi .slt e (broadcast S512x1 (Scalar.addi b 4#32))))
    (andi (cmpi .sge e' (broadcast S512x1 b)) (cmpi .slt e' (broadcast S512x1 (Scalar.addi b 4#32))))) natLt_1_32)

/-- A bit as a float. -/
theorem bit_float (x : Bool) :
    FloatOps.sitofp (F := Ideal) FTy.f32 (BitVec.setWidth 32 (BitVec.ofBool x)) = if x = true then (1 : EReal) else 0 := by
  show (((BitVec.setWidth 32 (BitVec.ofBool x)).toInt : ℝ) : EReal) = _
  cases x <;> simp

/-- The conjunction of two bits. -/
theorem andi_bits (x y : Bool) : IntOp.andi (BitVec.ofBool x) (BitVec.ofBool y) = BitVec.ofBool (x && y) := by
  cases x <;> cases y <;> rfl
/-- The disjunction of two bits. -/
theorem ori_bits (x y : Bool) : IntOp.ori (BitVec.ofBool x) (BitVec.ofBool y) = BitVec.ofBool (x || y) := by
  cases x <;> cases y <;> rfl
/-- A choice by a bit. -/
theorem select_bit {α : Type} (x : Bool) (u v : α) : Scalar.select (BitVec.ofBool x) u v = if x = true then u else v := by
  cases x <;> rfl
/-- A signed comparison as a bit. -/
theorem sge_bit (x y : BitVec 32) : IntOp.cmpi CmpIPredicate.sge x y = BitVec.ofBool (y.sle x) := rfl
/-- A signed comparison as a bit. -/
theorem slt_bit (x y : BitVec 32) : IntOp.cmpi CmpIPredicate.slt x y = BitVec.ofBool (x.slt y) := rfl
/-- A signed comparison as a bit. -/
theorem sgt_bit (x y : BitVec 32) : IntOp.cmpi CmpIPredicate.sgt x y = BitVec.ofBool (y.slt x) := rfl
/-- An equality as a bit. -/
theorem eq_bit (x y : BitVec 32) : IntOp.cmpi CmpIPredicate.eq x y = BitVec.ofBool (decide (x = y)) := by
  show BitVec.ofBool (x == y) = _
  congr 1

/-- The selection column at a token. -/
theorem selCol_apply (b : BitVec 32) (e e' : IVec S512x1 32) (t : Fin 512) :
    selCol b e e' (ix2 t 0) = if (hit b (e (ix2 t 0)) || hit b (e' (ix2 t 0))) = true then (1 : EReal) else 0 := by
  pointwise [selCol]
  rw [sge_bit, sge_bit, slt_bit, slt_bit, andi_bits, andi_bits, ori_bits, bit_float]
  rfl

/-- The first column of the indices. -/
theorem e0_apply (t : Fin 512) : e0 A c (ix2 t 0) = A.i c (ix2 t 0) := by
  pointwise [e0, k0_pay3, col0]
  refine congrArg (A.i c) (funext fun a => Fin.ext ?_)
  match a with
  | 0 => show 0 + 1 * t.val = t.val; omega
  | 1 => rfl
/-- The second column of the indices. -/
theorem e1_apply (t : Fin 512) : e1 A c (ix2 t 0) = A.i c (ix2 t 1) := by
  pointwise [e1, k0_pay4, col1]
  refine congrArg (A.i c) (funext fun a => Fin.ext ?_)
  match a with
  | 0 => show 0 + 1 * t.val = t.val; omega
  | 1 => rfl

/-- The column towards the next device is the selection column of its first expert. -/
theorem sel1_eq : sel1 A c = selCol (wrap4 (Scalar.addi (w2 c) 1#32)) (e0 A c) (e1 A c) := rfl
/-- The same two devices further. -/
theorem sel2_eq : sel2 A c = selCol (wrap4 (Scalar.addi (w2 c) 2#32)) (e0 A c) (e1 A c) := rfl
/-- The same three devices further. -/
theorem sel3_eq : sel3 A c = selCol (wrap4 (Scalar.addi (w2 c) 3#32)) (e0 A c) (e1 A c) := rfl

/-- A token's entry of the selection column of a group. -/
theorem selCol_goes (g : Fin 4) (t : Fin 512) :
    selCol (first g) (e0 A c) (e1 A c) (ix2 t 0) = if goes A c g t = true then (1 : EReal) else 0 := by
  rw [selCol_apply, e0_apply, e1_apply]
  rfl

/-- Whether a token goes to the next device. -/
theorem sel1_apply (t : Fin 512) : sel1 A c (ix2 t 0) = if goes A c (peer c 0) t = true then (1 : EReal) else 0 := by
  rw [sel1_eq, wrap4_one, selCol_goes]
/-- Whether it goes two devices further. -/
theorem sel2_apply (t : Fin 512) : sel2 A c (ix2 t 0) = if goes A c (peer c 1) t = true then (1 : EReal) else 0 := by
  rw [sel2_eq, wrap4_two, selCol_goes]
/-- Whether it goes three devices further. -/
theorem sel3_apply (t : Fin 512) : sel3 A c (ix2 t 0) = if goes A c (peer c 2) t = true then (1 : EReal) else 0 := by
  rw [sel3_eq, wrap4_three, selCol_goes]

/-! ## Ranks -/

/-- A word below half the range is signed less exactly when its number is. -/
theorem slt_nat (a b : ℕ) (ha : a < 1000) (hb : b < 1000) : (BitVec.ofNat 32 a).slt (BitVec.ofNat 32 b) = decide (a < b) := by
  rw [BitVec.slt_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

/-- The matrix of ones strictly below the diagonal. -/
theorem tri_apply (t u : Fin 512) : tri (F := Ideal) (ix2 t u) = if u < t then (1 : EReal) else 0 := by
  pointwise [tri, k0_pay2]
  rw [sgt_bit, bit_float, slt_nat _ _ (by omega) (by omega)]
  simp

/-- The rank of a token among those that go to group `g`, as an exact value. -/
def rankF (g : Fin 4) (t : Fin 512) : EReal := ((rank (goes A c g) t : ℝ) : EReal)

/-- The ranks two devices further. -/
theorem rk_apply0 (t : Fin 512) : rk A c (ix2 t 0) = rankF A c (peer c 1) t := by
  pointwise [rk, k0_pay8]
  simp only [tri_apply, sel2_apply]
  exact sum_rank _ _
/-- The ranks towards the next device. -/
theorem rk_apply1 (t : Fin 512) : rk A c (ix2 t 1) = rankF A c (peer c 0) t := by
  pointwise [rk, k0_pay8]
  simp only [tri_apply, sel1_apply]
  exact sum_rank _ _
/-- The ranks three devices further. -/
theorem rk_apply2 (t : Fin 512) : rk A c (ix2 t 2) = rankF A c (peer c 2) t := by
  pointwise [rk, k0_pay8]
  have h : k0_pay7 (F := Ideal) (w2 c) (e0 A c) (e1 A c) = sel3 A c := rfl
  simp only [tri_apply, h, sel3_apply]
  exact sum_rank _ _
/-- The same column by itself. -/
theorem rk1_apply (t : Fin 512) : rk1 A c (ix2 t 0) = rankF A c (peer c 0) t := by
  rw [← rk_apply1]
  pointwise [rk1, k0_pay13]

/-- A rank as a word. -/
theorem rank_word (g : Fin 4) (t : Fin 512) :
    FloatOps.fptosi (F := Ideal) (φ := .f32) 32 (rankF A c g t) = BitVec.ofNat 32 (rank (goes A c g) t) := by
  have h := rank_le (goes A c g) t
  rw [rankF]
  show Ideal.fptosi 32 _ = _
  unfold Ideal.fptosi
  rw [Ideal.toIntClamped_coe, if_pos (by positivity), Int.floor_natCast, min_eq_right, max_eq_right, BitVec.ofInt_natCast]
  · push_cast; omega
  · push_cast; omega

/-! ## The gathering matrices -/

/-- The test a gathering matrix makes, as a value. -/
theorem pick_word (g : Fin 4) (t : Fin 512) (r : Fin 320) :
    Scalar.select (IntOp.andi (IntOp.cmpi CmpIPredicate.eq (BitVec.ofNat 32 r.val) (FloatOps.fptosi (F := Ideal) (φ := .f32) 32 (rankF A c g t)))
      (BitVec.ofBool (decide ((0 : EReal) < if goes A c g t = true then 1 else 0)))) (1 : EReal) 0 = pick (goes A c g) r.val t := by
  have h := rank_le (goes A c g) t
  rw [rank_word, eq_bit, andi_bits, select_bit, pick]
  have h1 : (BitVec.ofNat 32 r.val = BitVec.ofNat 32 (rank (goes A c g) t)) ↔ r.val = rank (goes A c g) t := by
    rw [← BitVec.toNat_inj]
    simp only [BitVec.toNat_ofNat]
    rw [Nat.mod_eq_of_lt (by omega), Nat.mod_eq_of_lt (by omega)]
  have h2 : ((0 : EReal) < if goes A c g t = true then 1 else 0) ↔ goes A c g t = true := by
    by_cases h : goes A c g t = true <;> simp [h]
  simp only [Bool.and_eq_true, decide_eq_true_eq, h1, h2]

/-- The gathering matrix two devices further. -/
theorem S2_apply (r : Fin 320) (t : Fin 512) : S2 A c (ix2 r t) = pick (goes A c (peer c 1)) r.val t := by
  have h : k0_pay8 (F := Ideal) (w2 c) tri (e0 A c) (e1 A c) (sel2 A c) (sel1 A c) = rk A c := rfl
  pointwise [S2, k0_pay9]
  rw [h, rk_apply0, sel2_apply]
  exact pick_word A c _ t r
/-- The one towards the next device. -/
theorem S1m_apply (r : Fin 320) (t : Fin 512) : S1m A c (ix2 r t) = pick (goes A c (peer c 0)) r.val t := by
  pointwise [S1m, k0_pay14]
  rw [rk1_apply, sel1_apply]
  exact pick_word A c _ t r
/-- The one three devices further. -/
theorem S3m_apply (r : Fin 320) (t : Fin 512) : S3m A c (ix2 r t) = pick (goes A c (peer c 2)) r.val t := by
  pointwise [S3m, k0_pay17]
  rw [rk_apply2, sel3_apply]
  exact pick_word A c _ t r

/-- The transposed matrices kept for the end. -/
theorem ST_apply (j : Fin 3) (t : Fin 512) (r : Fin 320) : ST A c j (ix3 0 t r) = pick (goes A c (peer c j)) r.val t := by
  match j with
  | 0 =>
    rw [← S1m_apply]
    pointwise [ST, k0_pay15]
    rfl
  | 1 =>
    rw [← S2_apply]
    pointwise [ST, T2, k0_pay11, k0_pay10]
    rfl
  | 2 =>
    rw [← S3m_apply]
    pointwise [ST, k0_pay18]
    rfl

/-- The tokens as kept. -/
theorem xb_apply (t : Fin 512) (d : Fin 256) : xb A c (ix2 t d) = A.x c (ix2 t d) := by
  pointwise [xb, k0_pay1]

/-- The gathered tokens. -/
theorem XS_apply (j : Fin 3) (r : Fin 320) (d : Fin 256) :
    XS A c j (ix3 0 r d) = ∑ t, pick (goes A c (peer c j)) r.val t * A.x c (ix2 t d) := by
  match j with
  | 0 =>
    have h : k0_pay14 (sel1 A c) (rk1 A c) = S1m A c := rfl
    pointwise [XS, k0_pay16]
    simp only [h, S1m_apply, xb_apply]
  | 1 =>
    pointwise [XS, k0_pay12]
    simp only [S2_apply, xb_apply]
  | 2 =>
    have h : k0_pay17 (sel3 A c) (rk A c) = S3m A c := rfl
    pointwise [XS, k0_pay19]
    simp only [h, S3m_apply, xb_apply]

end Cert.MoE
-- ==== Proof.Gates.lean ====
/-
# The gates read at an index

Over exact values: the router's probabilities, the weights of the two chosen experts, and the weights gathered for
each group.
-/
module

public import proofs.«01_k».proof.Proof.Read

@[expose] public section

noncomputable section

namespace Cert.MoE

open Idealize.ShloMosaic Cert.KernelIdeal Cert.KernelIdeal.Gen

/-- The router's probability of expert `e` for a token `x`. -/
def prob (x : Fin 256 → EReal) (w : Fin 256 → Fin 16 → EReal) (e : Fin 16) : EReal :=
  Ideal.div
    (Ideal.exp (∑ k, x k * w k e - Finset.fold max (Ideal.ofBits FTy.f32 4286578688#32) (fun e' => ∑ k, x k * w k e') Finset.univ))
    (∑ e'', Ideal.exp (∑ k, x k * w k e'' - Finset.fold max (Ideal.ofBits FTy.f32 4286578688#32) (fun e' => ∑ k, x k * w k e') Finset.univ))

variable (A : Args Ideal) (c : Dev nD)

/-- The probabilities of token `t`. -/
def P (t : Fin 512) : Fin 16 → EReal := prob (fun k => A.x c (ix2 t k)) (fun k e => A.w c (ix2 k e))

/-- The probabilities as computed. -/
theorem pr_apply (t : Fin 512) (e : Fin 16) : pr A c (ix2 t e) = P A c t e := by
  pointwise [pr, k0_pay20]
  rfl

/-- The expert a token names in column `k`. -/
def idx (t : Fin 512) (k : Fin 2) : Fin 16 := ⟨(A.i c (ix2 t k)).toNat % 16, Nat.mod_lt _ (by decide)⟩

/-- Every index names an expert. -/
def Named : Prop := ∀ t k, (A.i c (ix2 t k)).toNat < 16

variable {A c} in
/-- Then the index is the expert's number as a word. -/
theorem Named.word (h : Named A c) (t : Fin 512) (k : Fin 2) : A.i c (ix2 t k) = BitVec.ofNat 32 (idx A c t k).val := by
  have := h t k
  apply BitVec.eq_of_toNat_eq
  simp only [idx, BitVec.toNat_ofNat]
  omega

/-- Words of small numbers are equal exactly when the numbers are. -/
theorem word_inj (a b : ℕ) (ha : a < 1000) (hb : b < 1000) : (BitVec.ofNat 32 a = BitVec.ofNat 32 b) ↔ a = b := by
  rw [← BitVec.toNat_inj]
  simp only [BitVec.toNat_ofNat]
  rw [Nat.mod_eq_of_lt (by omega), Nat.mod_eq_of_lt (by omega)]

/-- A small expert number hits a group exactly when it is one of the group's four. -/
theorem hit_iff (g : Fin 4) (e : Fin 16) : hit (first g) (BitVec.ofNat 32 e.val) = decide (e.val / 4 = g.val) := by
  revert g e; decide

/-- A token goes to a group exactly when one of its experts is the group's. -/
theorem goes_iff (h : Named A c) (g : Fin 4) (t : Fin 512) :
    goes A c g t = true ↔ (idx A c t 0).val / 4 = g.val ∨ (idx A c t 1).val / 4 = g.val := by
  rw [goes, h.word, h.word, hit_iff, hit_iff]
  simp

/-- The weight of expert `e` for token `t`. -/
def W (t : Fin 512) (e : Fin 16) : EReal := weight (P A c t) (idx A c t 0) (idx A c t 1) e

/-- The first column spread over the experts. -/
theorem e0b_apply (t : Fin 512) (e : Fin 16) : e0b A c (ix2 t e) = A.i c (ix2 t 0) := by
  rw [← e0_apply]
  pointwise [e0b, k0_pay21]

/-- The expert numbers along a row. -/
theorem it16_apply (t : Fin 512) (e : Fin 16) : it16 (ix2 t e) = BitVec.ofNat 32 e.val := by
  pointwise [it16]

/-- The weights as computed. -/
theorem wt_apply (h : Named A c) (t : Fin 512) (e : Fin 16) : wt A c (ix2 t e) = W A c t e := by
  pointwise [wt, k0_pay22]
  simp only [e0b_apply, e1_apply, it16_apply, pr_apply, h.word, eq_bit, ori_bits, select_bit]
  have hk : ∀ e : Fin 16, (if (decide (BitVec.ofNat 32 e.val = BitVec.ofNat 32 (idx A c t 0).val) ||
      decide (BitVec.ofNat 32 e.val = BitVec.ofNat 32 (idx A c t 1).val)) = true then P A c t e else 0)
      = kept (P A c t) (idx A c t 0) (idx A c t 1) e := by
    intro e
    unfold kept
    have h0 := word_inj e.val (idx A c t 0).val (by omega) (by omega)
    have h1 := word_inj e.val (idx A c t 1).val (by omega) (by omega)
    simp only [Bool.or_eq_true, decide_eq_true_eq, h0, h1, Fin.ext_iff]
  rw [hk]
  simp only [hk]
  rfl

/-! ## One expert's column -/

/-- The column of weights of expert `b`, as the kernel sums it out. -/
def gcol (b : BitVec 32) (w : FVec Ideal S512x16 .f32) : FVec Ideal S512x1 .f32 :=
  shapeCast S512x1 (multiReduction .add [1] S512 (select (cmpi .eq it16 (broadcast S512x16 b)) w
    (broadcast S512x16 (Scalar.ofBits .f32 0x00000000#32))) 0x00000000#32 reduces_S512x16_S512 (.inl rfl) rfl) shapeCasts_S512_S512x1

/-- The word of expert `l` of a group. -/
theorem first_add (g l : Fin 4) : Scalar.addi (first g) (BitVec.ofNat 32 l.val) = BitVec.ofNat 32 (expert g l).val := by
  revert g l; decide

/-- It is that expert's column. -/
theorem gcol_apply (e : Fin 16) (w : FVec Ideal S512x16 .f32) (t : Fin 512) :
    gcol (BitVec.ofNat 32 e.val) w (ix2 t 0) = w (ix2 t e) := by
  pointwise [gcol]
  simp only [it16_apply, eq_bit, select_bit, decide_eq_true_eq]
  rw [Finset.sum_eq_single e]
  · simp
  · intro e' _ he
    rw [if_neg]
    rw [word_inj _ _ (by omega) (by omega)]
    exact fun h => he (Fin.ext h)
  · simp

/-! ## The gates sent -/

/-- Four columns gathered and laid out by rows. -/
def gbuild (S : FVec Ideal S320x512 .bf16) (c0 c1 c2 c3 : FVec Ideal S512x1 .f32) : FVec Ideal S1x4x320 .bf16 :=
  shapeCast S1x4x320 (truncf .bf16 (transpose S4x320 [1, 0] (matmul dot_S320x512_S512x4_S320x4_1_0_0_1_n_n none S
    (truncf .bf16 (concatenate S512x4 1 [⟨S512x1, c0⟩, ⟨S512x1, c1⟩, ⟨S512x1, c2⟩, ⟨S512x1, c3⟩]
      concatenates_S512x1_S512x1_S512x1_S512x1_S512x4_d1) bitsLt_bf16_f32) (constant S320x4 .f32 0x00000000#32))
    transposes_S320x4_p1_0_S4x320) bitsLt_bf16_f32) shapeCasts_S4x320_S1x4x320

/-- Row `l` is column `l` gathered. -/
theorem gbuild_apply (S : FVec Ideal S320x512 .bf16) (C : Fin 4 → FVec Ideal S512x1 .f32) (l : Fin 4) (r : Fin 320) :
    gbuild S (C 0) (C 1) (C 2) (C 3) (ix3 0 l r) = ∑ t, S (ix2 r t) * C l (ix2 t 0) := by
  pointwise [gbuild]
  refine Finset.sum_congr rfl fun t _ => congrArg _ ?_
  fin_cases l <;> rfl

/-- The gates towards the next device. -/
theorem GS0_eq : GS A c 0 = gbuild (S1m A c) (gcol (Scalar.addi (wrap4 (Scalar.addi (w2 c) 1#32)) 0#32) (wt A c))
    (gcol (Scalar.addi (wrap4 (Scalar.addi (w2 c) 1#32)) 1#32) (wt A c)) (gcol (Scalar.addi (wrap4 (Scalar.addi (w2 c) 1#32)) 2#32) (wt A c))
    (gcol (Scalar.addi (wrap4 (Scalar.addi (w2 c) 1#32)) 3#32) (wt A c)) := rfl
/-- The gates two devices further. -/
theorem GS1_eq : GS A c 1 = gbuild (S2 A c) (gcol (Scalar.addi (wrap4 (Scalar.addi (w2 c) 2#32)) 0#32) (wt A c))
    (gcol (Scalar.addi (wrap4 (Scalar.addi (w2 c) 2#32)) 1#32) (wt A c)) (gcol (Scalar.addi (wrap4 (Scalar.addi (w2 c) 2#32)) 2#32) (wt A c))
    (gcol (Scalar.addi (w319 c) 3#32) (wt A c)) := rfl
/-- The gates three devices further. -/
theorem GS2_eq : GS A c 2 = gbuild (S3m A c) (gcol (Scalar.addi (wrap4 (Scalar.addi (w2 c) 3#32)) 0#32) (wt A c))
    (gcol (Scalar.addi (wrap4 (Scalar.addi (w2 c) 3#32)) 1#32) (wt A c)) (gcol (Scalar.addi (wrap4 (Scalar.addi (w2 c) 3#32)) 2#32) (wt A c))
    (gcol (Scalar.addi (wrap4 (Scalar.addi (w2 c) 3#32)) 3#32) (wt A c)) := rfl

/-- The columns of a group, gathered. -/
theorem gates_apply (h : Named A c) (g : Fin 4) (S : FVec Ideal S320x512 .bf16) (l : Fin 4) (r : Fin 320) :
    gbuild S (gcol (Scalar.addi (first g) 0#32) (wt A c)) (gcol (Scalar.addi (first g) 1#32) (wt A c))
      (gcol (Scalar.addi (first g) 2#32) (wt A c)) (gcol (Scalar.addi (first g) 3#32) (wt A c)) (ix3 0 l r)
      = ∑ t, S (ix2 r t) * W A c t (expert g l) := by
  refine (gbuild_apply S (fun l => gcol (Scalar.addi (first g) (BitVec.ofNat 32 l.val)) (wt A c)) l r).trans ?_
  simp only [first_add, gcol_apply, wt_apply A c h]

/-- The gates sent, at an index. -/
theorem GS_apply (h : Named A c) (j : Fin 3) (l : Fin 4) (r : Fin 320) :
    GS A c j (ix3 0 l r) = ∑ t, pick (goes A c (peer c j)) r.val t * W A c t (expert (peer c j) l) := by
  match j with
  | 0 => rw [GS0_eq, wrap4_one, gates_apply A c h]; simp only [S1m_apply]
  | 1 => rw [GS1_eq, wrap4_two, w319_eq, gates_apply A c h]; simp only [S2_apply]
  | 2 => rw [GS2_eq, wrap4_three, gates_apply A c h]; simp only [S3m_apply]

end Cert.MoE
-- ==== Proof.Experts.lean ====
/-
# The experts' work and the result read at an index

Over exact values, when every index names an expert, no group takes more tokens than its buffers hold and the
probabilities are positive: the result of a token is the weighted sum of all experts on it.
-/
module

public import proofs.«01_k».proof.Proof.Gates

@[expose] public section

noncomputable section

namespace Cert.MoE

open Idealize.ShloMosaic Cert.KernelIdeal Cert.KernelIdeal.Gen

variable (A : Args Ideal) (c : Dev nD)

/-- Expert `l` as loaded. -/
theorem slab_apply (l : Fin 4) (k : Fin 256) (h : Fin 512) : slab A c l (ix3 0 k h) = A.e c (ix3 l k h) := by
  fin_cases l <;>
  · refine congrArg (A.e c) (funext fun a => Fin.ext ?_)
    match a with
    | 0 => rfl
    | 1 => show 0 + 1 * k.val = k.val; omega
    | 2 => show 0 + 1 * h.val = h.val; omega

/-- Expert `l` narrowed. -/
theorem EW_apply (l : Fin 4) (k : Fin 256) (h : Fin 512) : EW A c l (ix2 k h) = A.e c (ix3 l k h) := by
  rw [← slab_apply]
  match l with
  | 0 => pointwise [EW, k0_pay35]
  | 1 => pointwise [EW, k0_pay36]
  | 2 => pointwise [EW, k0_pay37]
  | 3 => pointwise [EW, k0_pay38]

/-- The experts side by side. -/
theorem E_apply (l : Fin 4) (k : Fin 256) (h : Fin 512) (q : Fin 2048) (hq : q.val = 512 * l.val + h.val) :
    E A c (ix2 k q) = A.e c (ix3 l k h) := by
  rw [← EW_apply]
  have h1 : (⟨q.val / 512, by omega⟩ : Fin 4) = l := Fin.ext (by show q.val / 512 = _; omega)
  have h2 : q.val % 512 = h.val := by omega
  show EW A c ⟨q.val / 512, _⟩ _ = _
  rw [h1]
  refine congrArg _ (funext fun a => Fin.ext ?_)
  match a with
  | 0 => rfl
  | 1 => exact h2

/-- Expert `l` of group `g` on a token `x`. -/
def lin (g l : Fin 4) (x : Fin 256 → EReal) (h : Fin 512) : EReal := ∑ k, x k * A.e g (ix3 l k h)

/-- The four experts side by side on a token. -/
theorem E_sum (x : Fin 256 → EReal) (l : Fin 4) (h : Fin 512) (q : Fin 2048) (hq : q.val = 512 * l.val + h.val) :
    ∑ k, x k * E A c (ix2 k q) = lin A c l x h := by
  unfold lin
  exact Finset.sum_congr rfl fun k _ => by rw [E_apply A c l k h q hq]

/-- What is sent back: the gated sum of the four experts. -/
theorem PS_apply (j : Fin 3) (r : Fin 320) (h : Fin 512) :
    PS A c j (ix3 0 r h) = ∑ l, GC A c j (ix3 0 l r) * lin A c l (fun k => XC A c j (ix3 0 r k)) h := by
  rw [Fin.sum_univ_four]
  match j with
  | 0 =>
    pointwise [PS, k0_pay40, k0_pay39]
    rw [E_sum A c _ 0 h _ (by simp), E_sum A c _ 1 h _ (by simp), E_sum A c _ 2 h _ (by simp), E_sum A c _ 3 h _ (by simp)]
  | 1 =>
    pointwise [PS, k0_pay46, k0_pay45, k0_pay44, k0_pay43, k0_pay42, v651, k0_pay41]
    rw [E_sum A c _ 0 h _ (by simp), E_sum A c _ 1 h _ (by simp), E_sum A c _ 2 h _ (by simp), E_sum A c _ 3 h _ (by simp)]
  | 2 =>
    pointwise [PS, k0_pay48, k0_pay47]
    rw [E_sum A c _ 0 h _ (by simp), E_sum A c _ 1 h _ (by simp), E_sum A c _ 2 h _ (by simp), E_sum A c _ 3 h _ (by simp)]

/-- What comes back, in terms of what was sent. -/
theorem PR_apply (j : Fin 3) (r : Fin 320) (h : Fin 512) :
    PR A c j (ix3 0 r h) = ∑ l, GS A c j (ix3 0 l r) * lin A (peer c j) l (fun k => XS A c j (ix3 0 r k)) h := by
  match j with
  | 0 => show PS A (peer c 0) 2 _ = _; rw [PS_apply]; simp only [GC, XC, peer_peer0]
  | 1 => show PS A (peer c 1) 1 _ = _; rw [PS_apply]; simp only [GC, XC, peer_peer1]
  | 2 => show PS A (peer c 2) 0 _ = _; rw [PS_apply]; simp only [GC, XC, peer_peer2]

/-- The device's own part. -/
theorem own_apply (hn : Named A c) (t h : Fin 512) :
    own51 A c (ix2 t h) = ∑ l, W A c t (expert c l) * lin A c l (fun k => A.x c (ix2 t k)) h := by
  have e : own51 A c = k0_pay51 (w2 c) it16 (wt A c) (k0_pay49 (xb A c) (E A c)) (gcol (Scalar.addi (first c) 0#32) (wt A c))
      (Scalar.addi (first c) 1#32) := by rw [← own_first]; rfl
  have f0 : Scalar.addi (first c) 0#32 = BitVec.ofNat 32 (expert c 0).val := first_add c 0
  have f1 : Scalar.addi (first c) 1#32 = BitVec.ofNat 32 (expert c 1).val := first_add c 1
  have f2 : Scalar.addi (first c) 2#32 = BitVec.ofNat 32 (expert c 2).val := first_add c 2
  have f3 : Scalar.addi (first c) 3#32 = BitVec.ofNat 32 (expert c 3).val := first_add c 3
  have g : ∀ e : Fin 16, ∑ x, Scalar.select (IntOp.cmpi CmpIPredicate.eq (it16 (ix2 t x)) (BitVec.ofNat 32 e.val)) (wt A c (ix2 t x)) (0 : EReal)
      = W A c t e := by
    intro e
    rw [← wt_apply A c hn, ← gcol_apply e (wt A c) t]
    pointwise [gcol]
  rw [e, Fin.sum_univ_four]
  pointwise [k0_pay51, k0_pay49]
  rw [own_first, f0, f1, f2, f3, g, g, g, gcol_apply, wt_apply A c hn]
  simp only [xb_apply]
  rw [E_sum A c _ 0 h _ (by simp), E_sum A c _ 1 h _ (by simp), E_sum A c _ 2 h _ (by simp), E_sum A c _ 3 h _ (by simp)]

/-- The result is the device's own part and the three that come back. -/
theorem OUT_apply (t h : Fin 512) :
    OUT A c (ix2 t h) = own51 A c (ix2 t h) + ∑ r, ST A c 2 (ix3 0 t r) * PR A c 2 (ix3 0 r h)
      + ∑ r, ST A c 0 (ix3 0 t r) * PR A c 0 (ix3 0 r h) + ∑ r, ST A c 1 (ix3 0 t r) * PR A c 1 (ix3 0 r h) := by
  pointwise [OUT, k0_pay53, a52, k0_pay52]

/-- No group takes more tokens than fit. -/
def Fits : Prop := ∀ g, count (goes A c g) ≤ 320

/-- The probabilities are positive numbers. -/
def Positive : Prop := ∀ t e, ∃ r : ℝ, 0 < r ∧ P A c t e = r

/-- A group of which a token names no expert has only zero weights for it. -/
theorem W_none (hn : Named A c) (hp : Positive A c) (g l : Fin 4) (t : Fin 512) (hg : goes A c g t = false) :
    W A c t (expert g l) = 0 := by
  have hg' : ¬ goes A c g t = true := by simp [hg]
  rw [goes_iff A c hn, not_or] at hg'
  refine weight_zero _ _ _ (hp t) _ (fun e => hg'.1 ?_) (fun e => hg'.2 ?_) <;>
  · rw [← e]; show (4 * g.val + l.val) / 4 = _; omega

/-- One peer's part of a token's result. -/
theorem part_apply (hn : Named A c) (hf : Fits A c) (hp : Positive A c) (j : Fin 3) (t h : Fin 512) :
    ∑ r, ST A c j (ix3 0 t r) * PR A c j (ix3 0 r h)
      = ∑ l, W A c t (expert (peer c j) l) * lin A (peer c j) l (fun k => A.x c (ix2 t k)) h := by
  simp only [ST_apply]
  by_cases hg : goes A c (peer c j) t = true
  · rw [pick_scatter _ _ hg ((rank_lt_count _ _ hg).trans_le (hf _)), PR_apply]
    simp only [GS_apply A c hn, XS_apply]
    simp only [pick_gather _ _ hg]
  · rw [Bool.not_eq_true] at hg
    rw [pick_scatter_none _ _ hg]
    exact (Finset.sum_eq_zero fun l _ => by rw [W_none A c hn hp _ _ _ hg, zero_mul]).symm

/-- The four groups from device `c` on. -/
theorem sum_ring (f : Fin 4 → EReal) : ∑ g, f g = f c + f (peer c 2) + f (peer c 0) + f (peer c 1) := by
  have h : f c + f (peer c 2) + f (peer c 0) + f (peer c 1) = f 0 + f 1 + f 2 + f 3 := by
    match c with
    | 0 => show f 0 + f 3 + f 1 + f 2 = _; abel
    | 1 => show f 1 + f 0 + f 2 + f 3 = _; abel
    | 2 => show f 2 + f 1 + f 3 + f 0 = _; abel
    | 3 => show f 3 + f 2 + f 0 + f 1 = _; abel
  rw [Fin.sum_univ_four, h]

/-- **The result of a token**: the weighted sum of all experts on it. -/
theorem result (hn : Named A c) (hf : Fits A c) (hp : Positive A c) (t h : Fin 512) :
    OUT A c (ix2 t h) = ∑ g, ∑ l, W A c t (expert g l) * lin A g l (fun k => A.x c (ix2 t k)) h := by
  rw [OUT_apply, own_apply A c hn, part_apply A c hn hf hp, part_apply A c hn hf hp, part_apply A c hn hf hp,
    sum_ring c (fun g => ∑ l, W A c t (expert g l) * lin A g l (fun k => A.x c (ix2 t k)) h)]

end Cert.MoE
-- ==== Proof.Positive.lean ====
/-
# The router's probabilities are positive

Over exact values, when a token's features and the router's weights are finite, every probability is a positive
real number.
-/
module

public import proofs.«01_k».proof.Proof.Experts

@[expose] public section

noncomputable section

namespace Cert.MoE

open Idealize.ShloMosaic Cert.KernelIdeal Cert.KernelIdeal.Gen

/-- The value the maximum starts from is the least one. -/
theorem start_bot : Ideal.ofBits FTy.f32 4286578688#32 = (⊥ : EReal) := by simp [Ideal.ofBits, Ideal.ieee]

/-- The sum of real numbers is their real sum. -/
theorem coe_sum_real {ι : Type} (S : Finset ι) (r : ι → ℝ) : ∑ i ∈ S, (r i : EReal) = ((∑ i ∈ S, r i : ℝ) : EReal) := by
  classical
  induction S using Finset.induction_on with
  | empty => simp
  | insert a S ha ih => rw [Finset.sum_insert ha, Finset.sum_insert ha, ih, EReal.coe_add]

/-- A sum of real numbers is real. -/
theorem real_sum {ι : Type} [Fintype ι] (f : ι → EReal) (hf : ∀ i, ∃ r : ℝ, f i = r) : ∃ r : ℝ, ∑ i, f i = r := by
  choose r hr using hf
  exact ⟨∑ i, r i, by rw [← coe_sum_real]; exact Finset.sum_congr rfl fun i _ => hr i⟩

/-- The maximum of finitely many real numbers, at least one, is real. -/
theorem real_max (f : Fin 16 → EReal) (hf : ∀ i, ∃ r : ℝ, f i = r) : ∃ r : ℝ, Finset.fold max (⊥ : EReal) f Finset.univ = r := by
  have h1 : Finset.fold max (⊥ : EReal) f Finset.univ < ⊤ :=
    (Finset.fold_max_lt _).2 ⟨bot_lt_top, fun i _ => by obtain ⟨r, hr⟩ := hf i; rw [hr]; exact EReal.coe_lt_top r⟩
  have h2 : ⊥ < Finset.fold max (⊥ : EReal) f Finset.univ :=
    (Finset.lt_fold_max _).2 (Or.inr ⟨0, Finset.mem_univ _, by obtain ⟨r, hr⟩ := hf 0; rw [hr]; exact EReal.bot_lt_coe r⟩)
  exact ⟨_, (EReal.coe_toReal h1.ne h2.ne').symm⟩

/-- With finite features and weights every probability is a positive real number. -/
theorem prob_pos (x : Fin 256 → EReal) (w : Fin 256 → Fin 16 → EReal) (hx : ∀ k, ∃ r : ℝ, x k = r) (hw : ∀ k e, ∃ r : ℝ, w k e = r)
    (e : Fin 16) : ∃ r : ℝ, 0 < r ∧ prob x w e = r := by
  have hs : ∀ e, ∃ r : ℝ, ∑ k, x k * w k e = r := fun e => real_sum _ fun k => by
    obtain ⟨a, ha⟩ := hx k
    obtain ⟨b, hb⟩ := hw k e
    exact ⟨a * b, by rw [ha, hb, EReal.coe_mul]⟩
  obtain ⟨M, hM⟩ := real_max _ hs
  choose s hs using hs
  have hexp : ∀ e, Ideal.exp (∑ k, x k * w k e - Finset.fold max (Ideal.ofBits FTy.f32 4286578688#32) (fun e' => ∑ k, x k * w k e') Finset.univ)
      = ((Real.exp (s e - M) : ℝ) : EReal) := fun e => by
    rw [start_bot, hM, hs e, ← EReal.coe_sub]
    rfl
  unfold prob
  simp only [hexp]
  rw [coe_sum_real]
  have hpos : 0 < ∑ e : Fin 16, Real.exp (s e - M) := Finset.sum_pos (fun e _ => Real.exp_pos _) ⟨0, Finset.mem_univ _⟩
  exact ⟨_, div_pos (Real.exp_pos _) hpos, div_pos_coe hpos⟩

/-- The features of device `c`'s tokens and its router weights are finite. -/
def Finite (A : Args Ideal) (c : Dev nD) : Prop :=
  (∀ t k, ∃ r : ℝ, A.x c (ix2 t k) = (r : EReal)) ∧ ∀ k e, ∃ r : ℝ, A.w c (ix2 k e) = (r : EReal)

/-- Then its probabilities are positive. -/
theorem Finite.positive {A : Args Ideal} {c : Dev nD} (h : Finite A c) : Positive A c :=
  fun t e => prob_pos _ _ (fun k => h.1 t k) (fun k e => h.2 k e) e

end Cert.MoE
-- ==== Proof.Pre.lean ====
/-
# The precondition decoded

What the precondition says of one device's arguments: finite features and router weights, indices that name experts,
and no group chosen by more tokens than its buffers hold.
-/
module

public import proofs.«01_k».proof.Proof.Positive
public import proofs.«01_k».proof.Pre_routing_fits_KernelIdeal
public import proofs.«01_k».proof.Pre_routing_fits_ReferenceIdeal
public import Idealize.ShloMosaic.Lib.StableHlo.Predicate

@[expose] public section

noncomputable section

namespace Cert.MoE

open Idealize.ShloMosaic Idealize.ShloMosaic.StableHlo

/-- The shape conditions of the precondition over one device's arguments. -/
instance preFacts : Cert.Pre_routing_fits_KernelIdeal.Facts := by constructor <;> decide

/-- The shape conditions of the precondition over the whole arguments. -/
theorem preFactsR : Cert.Pre_routing_fits_ReferenceIdeal.Facts := by constructor <;> decide

/-- A value whose size is below the largest is a real number. -/
theorem real_of_lt (x : EReal) (h : Ideal.cmp .olt (max x (-x)) (Ideal.ofBits FTy.f32 0x7F800000#32) = 1#1) : ∃ r : ℝ, x = r := by
  have htop : Ideal.ofBits FTy.f32 0x7F800000#32 = (⊤ : EReal) := by simp [Ideal.ofBits, Ideal.ieee]
  rw [htop] at h
  have h1 : x ≠ ⊤ := by rintro rfl; simp [Ideal.cmp] at h
  have h2 : x ≠ ⊥ := by rintro rfl; simp [Ideal.cmp] at h
  exact ⟨_, (EReal.coe_toReal h1 h2).symm⟩

/-- A word from zero to fifteen, compared signed, is a number below sixteen. -/
theorem small_of_bits (w : BitVec 32) (h : IntOp.andi (IntOp.cmpi .sge w 0#32) (IntOp.cmpi .slt w 16#32) = 1#1) : w.toNat < 16 := by
  rw [sge_bit, slt_bit, andi_bits, Predicate.ofBool_eq_one_iff, Bool.and_eq_true] at h
  obtain ⟨h0, h1⟩ := h
  simp only [BitVec.sle, BitVec.slt, decide_eq_true_eq] at h0 h1
  have h2 : (0#32 : BitVec 32).toInt = 0 := by decide
  have h3 : (16#32 : BitVec 32).toInt = 16 := by decide
  rw [h2] at h0
  rw [h3] at h1
  rw [BitVec.toInt_eq_toNat_cond] at h0 h1
  split at h0 <;> omega

/-- The first expert of a group as the precondition computes it. -/
theorem first_mul (g : Fin 4) : IntOp.muli 4#32 (BitVec.ofNat 32 g.val) = first g := by revert g; decide

/-- A column's sum of widened bits is the number of its set bits. -/
theorem column_count (mask : IVec ⟨2, ![512, 4]⟩ 1) (hw : 1 < 32) (hr : (⟨2, ![512, 4]⟩ : Shape).ReducesTo [0] ⟨1, ![4]⟩)
    {u : Shape} (hu : 0 < u.numel) (g : Fin 4) :
    (Host.reduce IntOp.addi (extui 32 mask hw) (constantI u 32 0#32) hr hu (ix1 g)).toNat
      = (Finset.univ.filter fun t : Fin 512 => mask (ix2 t g) = 1#1).card := by
  refine (Predicate.toNat_reduce_count_rows (by decide) mask hw hr hu (ix1 g)).trans ?_
  refine congrArg Finset.card (Finset.filter_congr fun t _ => ?_)
  have hi : (Predicate.ij t g : (⟨2, ![512, 4]⟩ : Shape).Idx) = ix2 t g := funext fun a => by match a with | 0 => rfl | 1 => rfl
  exact iff_of_eq (congrArg (fun i => mask i = 1#1) hi)

variable (A : Args Ideal) (c : Dev Cert.KernelIdeal.nD)

/-- The precondition of device `c`'s arguments. -/
def Holds : Prop :=
  (Cert.Pre_routing_fits_KernelIdeal.fn (F := Ideal) (A.x c) (A.w c) (A.i c) (A.e c)).1 = (fun _ => 1#1)
  ∧ (Cert.Pre_routing_fits_KernelIdeal.fn (F := Ideal) (A.x c) (A.w c) (A.i c) (A.e c)).2.1 = (fun _ => 1#1)
  ∧ (Cert.Pre_routing_fits_KernelIdeal.fn (F := Ideal) (A.x c) (A.w c) (A.i c) (A.e c)).2.2.1 = (fun _ => 1#1)
  ∧ (Cert.Pre_routing_fits_KernelIdeal.fn (F := Ideal) (A.x c) (A.w c) (A.i c) (A.e c)).2.2.2 = (fun _ => 1#1)

variable {A c}

/-- The features and the router's weights are finite. -/
theorem Holds.finite (h : Holds A c) : Finite A c := by
  refine ⟨fun t k => ?_, fun k e => ?_⟩
  · have h1 := congrFun h.1 (ix2 t k)
    simp only [Cert.Pre_routing_fits_KernelIdeal.fn, Cert.Pre_routing_fits_KernelIdeal.fn_part1, Cert.Pre_routing_fits_KernelIdeal.fn_part2] at h1
    exact real_of_lt _ h1
  · have h1 := congrFun h.2.1 (ix2 k e)
    simp only [Cert.Pre_routing_fits_KernelIdeal.fn, Cert.Pre_routing_fits_KernelIdeal.fn_part1, Cert.Pre_routing_fits_KernelIdeal.fn_part2] at h1
    exact real_of_lt _ h1

/-- Every index names an expert. -/
theorem Holds.named (h : Holds A c) : Named A c := by
  intro t k
  have h1 := congrFun h.2.2.1 (ix2 t k)
  simp only [Cert.Pre_routing_fits_KernelIdeal.fn, Cert.Pre_routing_fits_KernelIdeal.fn_part1, Cert.Pre_routing_fits_KernelIdeal.fn_part2] at h1
  exact small_of_bits _ h1

/-- No group is chosen by more tokens than its buffers hold. -/
theorem Holds.fits (h : Holds A c) : Fits A c := by
  intro g
  have h1 := congrFun h.2.2.2 (ix1 g)
  simp only [Cert.Pre_routing_fits_KernelIdeal.fn, Cert.Pre_routing_fits_KernelIdeal.fn_part1, Cert.Pre_routing_fits_KernelIdeal.fn_part2] at h1
  rw [show ∀ (x y : IVec Cert.Pre_routing_fits_KernelIdeal.S4 32) i, cmpi .sle x y i = IntOp.cmpi .sle (x i) (y i) from fun _ _ _ => rfl] at h1
  rw [Predicate.sle_iff_toNat] at h1
  · rw [column_count] at h1
    refine le_trans (le_of_eq ?_) h1
    unfold count
    refine congrArg Finset.card (Finset.filter_congr fun t _ => ?_)
    pointwise
    rw [first_mul, sge_bit, sge_bit, slt_bit, slt_bit, andi_bits, andi_bits,
      ori_bits, Predicate.ofBool_eq_one_iff]
    rfl
  · rw [column_count]
    refine lt_of_le_of_lt (Finset.card_le_univ _) ?_
    rw [Fintype.card_fin]
    norm_num
  · show (320#32 : BitVec 32).toNat < 2 ^ 31
    decide

end Cert.MoE

end
-- ==== Proof.Ref.lean ====
/-
# The reference read at an index

Over exact values, when every index names an expert: entry `h` of token `i` is the two chosen experts' outputs
weighted by their shares of the two probabilities.
-/
module

public import proofs.«01_k».proof.Proof.Gates
public import proofs.«01_k».proof.Proof.Gen.ReferenceIdeal.Run
public import Idealize.ShloMosaic.Lib.StableHlo.Predicate

@[expose] public section

noncomputable section

namespace Cert.MoE.Ref

open Idealize.ShloMosaic Cert.ReferenceIdeal Cert.ReferenceIdeal.Gen

/-- The gather of one probability per token: row `i`'s entry at the index read signed and clamped. -/
theorem gather_prob (x : S2048x16.Idx → EReal) (idx : IVec S2048x1x1 32) (i : Fin 2048) :
    Host.gather gather_S2048x16_S2048x1x1_S2048x1_n_1_0_0_1_2_11 x idx (ix2 i 0)
      = x (ix2 i ⟨min (idx (ix3 i 0 0)).toInt.toNat 15, by omega⟩) := by
  unfold Host.gather
  refine congrArg x (funext fun a => Fin.ext ?_)
  match a with
  | 0 =>
    show GatherDims.start _ _ _ _ + GatherDims.batchCoord _ _ _ + GatherDims.offCoord _ _ _ = _
    rw [GatherDims.start_batching _ _ _ _ (List.mem_singleton.2 rfl),
      GatherDims.offCoord_eq_zero _ _ _ fun h => ((GatherDims.mem_sKept _ _).1 h).2 (List.mem_singleton.2 rfl)]
    unfold GatherDims.batchCoord
    rw [dif_pos (by decide)]
    simp only [Nat.zero_add, Nat.add_zero]
    rfl
  | 1 =>
    show GatherDims.start _ _ _ _ + GatherDims.batchCoord _ _ _ + GatherDims.offCoord _ _ _ = _
    rw [GatherDims.batchCoord_eq_zero _ _ _ (by decide),
      GatherDims.offCoord_eq_zero _ _ _ fun h => ((GatherDims.mem_sKept _ _).1 h).1 (List.mem_singleton.2 rfl)]
    unfold GatherDims.start
    rw [dif_pos (by decide)]
    simp only [Nat.add_zero]
    show min (idx _).toInt.toNat _ = min (idx _).toInt.toNat _
    congr 4
    funext b
    refine Fin.ext ?_
    match b with
    | 0 => rfl
    | 1 => rfl
    | 2 => rfl

/-- The gather of one expert's weights per token: the expert at the index read signed and clamped. -/
theorem gather_expert (x : S16x256x512.Idx → EReal) (idx : IVec S2048x1 32) (i : Fin 2048) (k : Fin 256) (h : Fin 512) :
    Host.gather gather_S16x256x512_S2048x1_S2048x256x512_12_0_n_n_0_1_1256512 x idx (ix3 i k h)
      = x (ix3 ⟨min (idx (ix2 i 0)).toInt.toNat 15, by omega⟩ k h) := by
  unfold Host.gather
  refine congrArg x (funext fun a => Fin.ext ?_)
  match a with
  | 0 =>
    show GatherDims.start _ _ _ _ + GatherDims.batchCoord _ _ _ + GatherDims.offCoord _ _ _ = _
    rw [GatherDims.batchCoord_eq_zero _ _ _ (by decide),
      GatherDims.offCoord_eq_zero _ _ _ fun h => ((GatherDims.mem_sKept _ _).1 h).1 (List.mem_singleton.2 rfl)]
    unfold GatherDims.start
    rw [dif_pos (by decide)]
    simp only [Nat.add_zero]
    show min (idx _).toInt.toNat _ = min (idx _).toInt.toNat _
    congr 4
    funext b
    refine Fin.ext ?_
    match b with
    | 0 => rfl
    | 1 => rfl
  | 1 =>
    show GatherDims.start _ _ _ _ + GatherDims.batchCoord _ _ _ + GatherDims.offCoord _ _ _ = _
    rw [GatherDims.batchCoord_eq_zero _ _ _ (by decide)]
    unfold GatherDims.start GatherDims.offCoord
    rw [dif_neg (by decide), dif_pos (by decide)]
    simp only [Nat.zero_add]
    rfl
  | 2 =>
    show GatherDims.start _ _ _ _ + GatherDims.batchCoord _ _ _ + GatherDims.offCoord _ _ _ = _
    rw [GatherDims.batchCoord_eq_zero _ _ _ (by decide)]
    unfold GatherDims.start GatherDims.offCoord
    rw [dif_neg (by decide), dif_pos (by decide)]
    simp only [Nat.zero_add]
    rfl

variable (m : (ℓ : Loc nD τ sig) → Buf (Elt Ideal) ℓ) (c : Dev nD)

/-- The expert an index word leads to: negative words count from the end, and the result is clamped. -/
def chosen (w : BitVec 32) : Fin 16 :=
  ⟨min (Scalar.select (IntOp.cmpi CmpIPredicate.slt w 0#32) (IntOp.addi w 16#32) w).toInt.toNat 15, by omega⟩

/-- A word that names an expert leads to that expert. -/
theorem chosen_eq (e : Fin 16) : chosen (BitVec.ofNat 32 e.val) = e := by
  revert e; decide

/-- Token `i`'s probabilities. -/
def PR (i : Fin 2048) : Fin 16 → EReal :=
  prob (fun k => m (c.tc.loc main_arg0) (ix2 i k)) (fun k e => m (c.tc.loc main_arg1) (ix2 k e))

/-- A token's features times one column of an expert's weights. -/
def along (x w : Fin 256 → EReal) : EReal := ∑ k, x k * w k

/-- The output of expert `e` on token `i`. -/
def YR (i : Fin 2048) (h : Fin 512) (e : Fin 16) : EReal :=
  along (fun k => m (c.tc.loc main_arg0) (ix2 i k)) (fun k => m (c.tc.loc main_arg3) (ix3 e k h))

/-- The result: the two chosen experts' outputs weighted by their shares. -/
theorem res_apply (i : Fin 2048) (h : Fin 512) (a b : Fin 16)
    (ha : m (c.tc.loc main_arg2) (ix2 i 0) = BitVec.ofNat 32 a.val) (hb : m (c.tc.loc main_arg2) (ix2 i 1) = BitVec.ofNat 32 b.val) :
    Value.res_main_v41 m c (ix2 i h)
      = Ideal.div (PR m c i a) (PR m c i a + PR m c i b) * YR m c i h a
        + Ideal.div (PR m c i b) (PR m c i a + PR m c i b) * YR m c i h b := by
  have hc0 := congrArg chosen ha
  have hc1 := congrArg chosen hb
  rw [chosen_eq] at hc0 hc1
  rw [← hc0, ← hc1]
  unfold Value.res_main_v41
  pointwise
  simp only [gather_prob, gather_expert]
  pointwise
  rfl

end Cert.MoE.Ref

end
-- ==== Proof.Algebraic.lean ====
/-
# The kernel computes the reference

Every device's result is its block of the reference's result.
-/
module

public import proofs.«01_k».proof.Defs
public import proofs.«01_k».proof.Proof.Value
public import proofs.«01_k».proof.Proof.Pre
public import proofs.«01_k».proof.Proof.Ref

@[expose] public section

noncomputable section

namespace Cert.MoE

open Idealize.ShloMosaic Idealize.SL.Sem
open Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Every device holds its block of the features, the indices and the experts, and the whole router. -/
def Dealt : Prop := ∀ c : Dev Cert.KernelIdeal.nD,
  m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
  ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
  ∧ m ((c.tc : Thread Cert.KernelIdeal.nD Cert.KernelIdeal.τ).loc Cert.KernelIdeal.main_arg2) = Layout.block ⟨2, ![512, 2]⟩ ⟨2, ![2048, 2]⟩ 0 4 c (m' (((0 : Dev Cert.ReferenceIdeal.nD).tc : Thread Cert.ReferenceIdeal.nD Cert.ReferenceIdeal.τ).loc Cert.ReferenceIdeal.main_arg2))
  ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))

/-- The row of the whole arrays that is row `t` of device `c`. -/
def row (c : Fin 4) (t : Fin 512) : Fin 2048 := ⟨512 * c.val + t.val, by omega⟩

/-- A block of rows read at an index. -/
theorem block_rows {α : Type} {n : ℕ} (c : Fin 4) (v : (⟨2, ![2048, n]⟩ : Shape).Idx → α)
    (ht : Layout.Tiles ⟨2, ![512, n]⟩ ⟨2, ![2048, n]⟩ 0 4) (t : Fin 512) (k : Fin n) :
    Layout.block ⟨2, ![512, n]⟩ ⟨2, ![2048, n]⟩ 0 4 c v ht (ix2 t k) = v (ix2 (row c t) k) := by
  rw [Layout.block_apply]
  refine congrArg v (funext fun a => Fin.ext ?_)
  rw [Layout.Tiles.idx_val]
  match a with
  | 0 => show c.val * 512 + t.val = 512 * c.val + t.val; omega
  | 1 => rfl

/-- A block of experts read at an index. -/
theorem block_experts {α : Type} (g : Fin 4) (v : (⟨3, ![16, 256, 512]⟩ : Shape).Idx → α)
    (ht : Layout.Tiles ⟨3, ![4, 256, 512]⟩ ⟨3, ![16, 256, 512]⟩ 0 4) (l : Fin 4) (k : Fin 256) (h : Fin 512) :
    Layout.block ⟨3, ![4, 256, 512]⟩ ⟨3, ![16, 256, 512]⟩ 0 4 g v ht (ix3 l k h) = v (ix3 (expert g l) k h) := by
  rw [Layout.block_apply]
  refine congrArg v (funext fun a => Fin.ext ?_)
  rw [Layout.Tiles.idx_val]
  match a with
  | 0 => show g.val * 4 + l.val = 4 * g.val + l.val; omega
  | 1 => rfl
  | 2 => rfl

variable {m m'}

/-- The features of a token. -/
theorem Dealt.x (h : Dealt m m') (c : Dev Cert.KernelIdeal.nD) (t : Fin 512) (k : Fin 256) :
    (argsOf m).x c (ix2 t k) = m' (((0 : Dev Cert.ReferenceIdeal.nD).tc : Thread Cert.ReferenceIdeal.nD Cert.ReferenceIdeal.τ).loc Cert.ReferenceIdeal.main_arg0) (ix2 (row c t) k) := by
  rw [args_x, (h c).1]
  exact block_rows c _ _ t k

/-- The router's weights. -/
theorem Dealt.w (h : Dealt m m') (c : Dev Cert.KernelIdeal.nD) (k : Fin 256) (e : Fin 16) :
    (argsOf m).w c (ix2 k e) = m' (((0 : Dev Cert.ReferenceIdeal.nD).tc : Thread Cert.ReferenceIdeal.nD Cert.ReferenceIdeal.τ).loc Cert.ReferenceIdeal.main_arg1) (ix2 k e) := by
  rw [args_w, (h c).2.1]

/-- The indices of a token. -/
theorem Dealt.i (h : Dealt m m') (c : Dev Cert.KernelIdeal.nD) (t : Fin 512) (k : Fin 2) :
    (argsOf m).i c (ix2 t k) = m' (((0 : Dev Cert.ReferenceIdeal.nD).tc : Thread Cert.ReferenceIdeal.nD Cert.ReferenceIdeal.τ).loc Cert.ReferenceIdeal.main_arg2) (ix2 (row c t) k) := by
  rw [args_i, (h c).2.2.1]
  exact block_rows c _ _ t k

/-- The experts' weights. -/
theorem Dealt.e (h : Dealt m m') (g : Dev Cert.KernelIdeal.nD) (l : Fin 4) (k : Fin 256) (j : Fin 512) :
    (argsOf m).e g (ix3 l k j) = m' (((0 : Dev Cert.ReferenceIdeal.nD).tc : Thread Cert.ReferenceIdeal.nD Cert.ReferenceIdeal.τ).loc Cert.ReferenceIdeal.main_arg3) (ix3 (expert g l) k j) := by
  rw [args_e, (h g).2.2.2]
  exact block_experts g _ _ l k j

/-- The probabilities are the reference's. -/
theorem Dealt.prob (h : Dealt m m') (c : Dev Cert.KernelIdeal.nD) (t : Fin 512) : P (argsOf m) c t = Ref.PR m' 0 (row c t) := by
  unfold P Ref.PR
  simp only [h.x, h.w]

/-- The experts' outputs are the reference's. -/
theorem Dealt.lin (h : Dealt m m') (c g : Dev Cert.KernelIdeal.nD) (l : Fin 4) (t j : Fin 512) :
    lin (argsOf m) g l (fun k => (argsOf m).x c (ix2 t k)) j = Ref.YR m' 0 (row c t) j (expert g l) := by
  unfold MoE.lin Ref.YR Ref.along
  simp only [h.x, h.e]

/-- Under the precondition every device's result is its block of the reference's result. -/
theorem Dealt.result (h : Dealt m m') (c : Dev Cert.KernelIdeal.nD) (hp : Holds (argsOf m) c) :
    OUT (argsOf m) c = Layout.block ⟨2, ![512, 512]⟩ ⟨2, ![2048, 512]⟩ 0 4 c (Cert.ReferenceIdeal.Value.res_main_v41 m' 0) := by
  have key : ∀ t j : Fin 512, OUT (argsOf m) c (ix2 t j)
      = Layout.block ⟨2, ![512, 512]⟩ ⟨2, ![2048, 512]⟩ 0 4 c (Cert.ReferenceIdeal.Value.res_main_v41 m' 0) (by decide) (ix2 t j) := by
    intro t j
    rw [MoE.result (argsOf m) c hp.named hp.fits hp.finite.positive]
    refine Eq.trans ?_ (block_rows c _ _ t j).symm
    refine Eq.trans ?_ (Ref.res_apply m' 0 (row c t) j (idx (argsOf m) c t 0) (idx (argsOf m) c t 1)
      (by rw [← h.i]; exact hp.named.word t 0) (by rw [← h.i]; exact hp.named.word t 1)).symm
    simp only [h.lin]
    rw [← h.prob, ← weight_sum (P (argsOf m) c t) _ _ (hp.finite.positive t) (Ref.YR m' 0 (row c t) j), sum_groups]
    rfl
  funext i
  have hi : i = ix2 (i 0) (i 1) := funext fun a => by match a with | 0 => rfl | 1 => rfl
  rw [hi]
  exact key (i 0) (i 1)

/-- The precondition of the whole memory, device by device. -/
theorem holds_of_pre (h : Cert.Pre_KernelIdeal_routing_fits_KernelIdeal m) (c : Dev Cert.KernelIdeal.nD) : Holds (argsOf m) c := by
  unfold Holds
  rw [args_x, args_w, args_i, args_e]
  exact h c

end Cert.MoE

end
-- ==== Proof.lean ====
/- The proof of the claims: the kernel's run, stated once over any float values, gives both programs' frames;
   the reference's run gives its frame; their results are compared entry by entry. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The two printed kernels have the same table of bodies: the same text, so label by label by definition. -/
theorem bodies_eq : Cert.Kernel.defs₀ (F := Bits) = Cert.KernelIdeal.defs₀ (F := Bits) := by
  unfold Cert.Kernel.defs₀ Cert.KernelIdeal.defs₀
  refine congrArg _ (funext fun l => funext fun p => ?_)
  revert p
  match l with
  | 0 => rintro ⟨t, s⟩; rfl

/-- So they have the same table of labels. -/
theorem defs_eq : Cert.Kernel.defs (F := Bits) = Cert.KernelIdeal.defs (F := Bits) :=
  congrArg (Pipeline.defs (Cert.KernelIdeal.pcfgs (F := Bits))) bodies_eq

/-- The kernel as printed runs, leaves its arguments as they were, and ends with every counter at zero. -/
theorem frame_kernel : Cert.quiescent_Kernel := by
  intro m ρ _
  have h := Cert.MoE.run_frame (F := Bits) m ρ
  rw [← defs_eq] at h
  exact h

/-- The same of the kernel over exact values. -/
theorem frame_kernelIdeal : Cert.quiescent_KernelIdeal := fun m ρ _ => Cert.MoE.run_frame (F := Ideal) m ρ

/-- The reference runs, leaves its arguments and every counter at zero. -/
theorem frame_reference : Cert.quiescent_ReferenceIdeal := fun m ρ _ =>
  (θ_run Cert.ReferenceIdeal.defs _ _).mono (fun _ h => ⟨fun c => (h c).2, sem_eq_zero_of_no_sems rfl _⟩) (Cert.ReferenceIdeal.Value.run (F := Ideal) m ρ)

/-- Over exact values every device's result is its block of the reference's, under the precondition. -/
theorem algebraic : Cert.algebraic_KernelIdeal_ReferenceIdeal_pre_routing_fits_KernelIdeal
    (hKernelIdeal := Cert.KernelIdeal.Gen.facts) (hReferenceIdeal := Cert.ReferenceIdeal.Gen.facts) := by
  intro m g m' g' hpre hdealt
  refine ⟨Cert.ReferenceIdeal.Value.res_main_v41 m' 0, ?_, ?_⟩
  · refine (θ_run _ _ _).mono (fun _ h c => ?_) (Cert.MoE.run_value (F := Ideal) m g)
    exact ⟨(h c).1.trans (Cert.MoE.Dealt.result hdealt c (Cert.MoE.holds_of_pre hpre c)), (h c).2⟩
  · exact (θ_run _ _ _).mono (fun _ h => h 0) (Cert.ReferenceIdeal.Value.run (F := Ideal) m' g')

/-- Every claim of the certificate. -/
theorem claim : Cert.Claim := ⟨Cert.Kernel.Gen.facts, Cert.KernelIdeal.Gen.facts, Cert.ReferenceIdeal.Gen.facts,
  Cert.MoE.preFacts, Cert.MoE.preFactsR,
  frame_kernel, frame_kernelIdeal, fun m ρ _ => frame_kernelIdeal m ρ trivial,
  frame_reference, fun m ρ _ => frame_reference m ρ trivial, trivial, algebraic⟩

end Cert.Proof

end
